-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v96) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S256x512 : Shape := ⟨2, ![256, 512]⟩
abbrev S2x128 : Shape := ⟨2, ![2, 128]⟩
abbrev S128x3072 : Shape := ⟨2, ![128, 3072]⟩
abbrev S_ : Shape := ⟨0, ![]⟩
abbrev S128x1024 : Shape := ⟨2, ![128, 1024]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  slices_S128x3072_S128x1024_0_0 : S128x3072.Slices ![0, 0] S128x1024
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_v13 : IVec S_ 1) (main_v15 : FVec F S128x1024 .f32) (main_v16 : FVec F S128x1024 .f32) : IVec S_ 1 :=
  let main_v17 : IVec S128x1024 1 := cmpf .olt main_v15 main_v16
  let main_c_5 : IVec S_ 1 := constantI S_ 1 1#1
  let main_v18 : IVec S_ 1 := (fun x v => Host.reduce IntOp.andi x v reducesTo_S128x1024_S_d0_1 h_S_) main_v17 main_c_5
  let main_v19 : IVec S_ 1 := andi main_v13 main_v18
  main_v19

def fn {F : FTy → Type} [FloatOps F] (main_arg0 : FVec F S2x256x512 .f32) (main_arg1 : FVec F S512x256 .f32) (main_arg2 : FVec F S512x256 .f32) (main_arg3 : FVec F S512x256 .f32) (main_arg4 : FVec F S256x512 .f32) (main_arg5 : FVec F S2x128 .f32) (main_arg6 : FVec F S128x3072 .f32) (main_arg7 : FVec F S512x256 .f32) (main_arg8 : FVec F S256x512 .f32) : IVec S_ 1 :=
  let main_v0 : FVec F S512x256 .f32 := Host.absf main_arg1
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128 .f32 := Host.absf main_arg5
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128x1024 .f32 := (extractStridedSlice S128x1024 ![0, 0] · slices_S128x3072_S128x1024_0_0) main_arg6
  let main_v15 : FVec F S128x1024 .f32 := Host.absf main_v14
  let main_cst_4 : FVec F S_ .f32 := constant S_ .f32 0x7F800000#32
  let main_v16 : FVec F S128x1024 .f32 := broadcastInDim S128x1024 ![] bcast_S_S128x1024 main_cst_4
  fn_part1 (F := F) main_v13 main_v15 main_v16
-- ==== Pre_finite_scores_ReferenceIdeal.lean ====
abbrev S2x256x512 : Shape := ⟨3, ![2, 256, 512]⟩
abbrev S512x2048 : Shape := ⟨2, ![512, 2048]⟩
abbrev S2048x512 : Shape := ⟨2, ![2048, 512]⟩
abbrev S2x128 : Shape := ⟨2, ![2, 128]⟩
abbrev S128x3072 : Shape := ⟨2, ![128, 3072]⟩
abbrev S_ : Shape := ⟨0, ![]⟩
abbrev S128x1024 : Shape := ⟨2, ![128, 1024]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  slices_S128x3072_S128x1024_0_0 : S128x3072.Slices ![0, 0] S128x1024
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_v13 : IVec S_ 1) (main_v15 : FVec F S128x1024 .f32) (main_v16 : FVec F S128x1024 .f32) : IVec S_ 1 :=
  let main_v17 : IVec S128x1024 1 := cmpf .olt main_v15 main_v16
  let main_c_5 : IVec S_ 1 := constantI S_ 1 1#1
  let main_v18 : IVec S_ 1 := (fun x v => Host.reduce IntOp.andi x v reducesTo_S128x1024_S_d0_1 h_S_) main_v17 main_c_5
  let main_v19 : IVec S_ 1 := andi main_v13 main_v18
  main_v19

def fn {F : FTy → Type} [FloatOps F] (main_arg0 : FVec F S2x256x512 .f32) (main_arg1 : FVec F S512x2048 .f32) (main_arg2 : FVec F S512x2048 .f32) (main_arg3 : FVec F S512x2048 .f32) (main_arg4 : FVec F S2048x512 .f32) (main_arg5 : FVec F S2x128 .f32) (main_arg6 : FVec F S128x3072 .f32) (main_arg7 : FVec F S512x2048 .f32) (main_arg8 : FVec F S2048x512 .f32) : IVec S_ 1 :=
  let main_v0 : FVec F S512x2048 .f32 := Host.absf main_arg1
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128 .f32 := Host.absf main_arg5
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128x1024 .f32 := (extractStridedSlice S128x1024 ![0, 0] · slices_S128x3072_S128x1024_0_0) main_arg6
  let main_v15 : FVec F S128x1024 .f32 := Host.absf main_v14
  let main_cst_4 : FVec F S_ .f32 := constant S_ .f32 0x7F800000#32
  let main_v16 : FVec F S128x1024 .f32 := broadcastInDim S128x1024 ![] bcast_S_S128x1024 main_cst_4
  fn_part1 (F := F) main_v13 main_v15 main_v16
-- ==== Kernel.lean ====
abbrev S2x256x512 : Shape := ⟨3, ![2, 256, 512]⟩
abbrev S512x256 : Shape := ⟨2, ![512, 256]⟩
abbrev S256x512 : Shape := ⟨2, ![256, 512]⟩
abbrev S2x128 : Shape := ⟨2, ![2, 128]⟩
abbrev S128x3072 : Shape := ⟨2, ![128, 3072]⟩
abbrev S18x2x88x512 : Shape := ⟨4, ![18, 2, 88, 512]⟩
abbrev S18 : Shape := ⟨1, ![18]⟩
abbrev S_ : Shape := ⟨0, ![]⟩
abbrev S2x3072 : Shape := ⟨2, ![2, 3072]⟩
abbrev S2x512 : Shape := ⟨2, ![2, 512]⟩
abbrev S1x256x512 : Shape := ⟨3, ![1, 256, 512]⟩
abbrev S256 : Shape := ⟨1, ![256]⟩
abbrev S256x1 : Shape := ⟨2, ![256, 1]⟩
abbrev S1x512 : Shape := ⟨2, ![1, 512]⟩
abbrev S256x256 : Shape := ⟨2, ![256, 256]⟩
abbrev S256x64 : Shape := ⟨2, ![256, 64]⟩
abbrev S1 : Shape := ⟨1, ![1]⟩
abbrev S1x2x88x512 : Shape := ⟨4, ![1, 2, 88, 512]⟩
abbrev S2x88x512 : Shape := ⟨3, ![2, 88, 512]⟩
abbrev S1x2x80x512 : Shape := ⟨4, ![1, 2, 80, 512]⟩
abbrev S2x80x512 : Shape := ⟨3, ![2, 80, 512]⟩
abbrev S1x88x512 : Shape := ⟨3, ![1, 88, 512]⟩
abbrev S88x512 : Shape := ⟨2, ![88, 512]⟩
abbrev S88 : Shape := ⟨1, ![88]⟩
abbrev S88x1 : Shape := ⟨2, ![88, 1]⟩
abbrev S88x256 : Shape := ⟨2, ![88, 256]⟩
abbrev S1x80x512 : Shape := ⟨3, ![1, 80, 512]⟩
abbrev S80x512 : Shape := ⟨2, ![80, 512]⟩
abbrev S80 : Shape := ⟨1, ![80]⟩
abbrev S80x1 : Shape := ⟨2, ![80, 1]⟩
abbrev S80x256 : Shape := ⟨2, ![80, 256]⟩

abbrev nBuf : Space → Nat
  | .hbm => 10
  | .vmem => 12
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x512, .f32⟩
  | .hbm, ⟨5, _⟩ => ⟨S2x128, .f32⟩
  | .hbm, ⟨6, _⟩ => ⟨S128x3072, .f32⟩
  | .hbm, ⟨7, _⟩ => ⟨S512x256, .f32⟩
  | .hbm, ⟨8, _⟩ => ⟨S256x512, .f32⟩
  | .hbm, ⟨9, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S2x128, .f32⟩
  | .local _ .vmem, ⟨6, _⟩ => ⟨S128x3072, .f32⟩
  | .local _ .vmem, ⟨7, _⟩ => ⟨S512x256, .f32⟩
  | .local _ .vmem, ⟨8, _⟩ => ⟨S256x512, .f32⟩
  | .local _ .vmem, ⟨9, _⟩ => ⟨S2x256x512, .f32⟩
  | .local _ .vmem, ⟨10, _⟩ => ⟨S2x256x512, .f32⟩
  | .local _ .vmem, ⟨11, _⟩ => ⟨S18x2x88x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_100 : BitVec 32 := 1#32
  let v244 : BitVec 32 := Scalar.xori v2 c1_i32_100
  let c1_i32_104 : BitVec 32 := 1#32
  let v245 : BitVec 32 := Scalar.muli v244 c1_i32_104
  let v246 : BitVec 32 := Scalar.addi c0_i32_105 v245
  v246.toNat
def k0_dev5 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_112 : BitVec 32 := 4#32
  let v254 : BitVec 32 := Scalar.xori v2 c4_i32_112
  let c1_i32_116 : BitVec 32 := 1#32
  let v255 : BitVec 32 := Scalar.muli v254 c1_i32_116
  let v256 : BitVec 32 := Scalar.addi c0_i32_117 v255
  v256.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_123 : BitVec 32 := 3#32
  let v264 : BitVec 32 := Scalar.xori v2 c3_i32_123
  let c1_i32_126 : BitVec 32 := 1#32
  let v265 : BitVec 32 := Scalar.muli v264 c1_i32_126
  let v266 : BitVec 32 := Scalar.addi c0_i32_127 v265
  v266.toNat
def k0_dev7 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_164 : BitVec 32 := 3#32
  let v293 : BitVec 32 := Scalar.xori v2 c3_i32_164
  let c1_i32_168 : BitVec 32 := 1#32
  let v294 : BitVec 32 := Scalar.muli v293 c1_i32_168
  let v295 : BitVec 32 := Scalar.addi c0_i32_169 v294
  v295.toNat
def k0_dev8 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_206 : BitVec 32 := 1#32
  let v322 : BitVec 32 := Scalar.xori v2 c1_i32_206
  let c1_i32_210 : BitVec 32 := 1#32
  let v323 : BitVec 32 := Scalar.muli v322 c1_i32_210
  let v324 : BitVec 32 := Scalar.addi c0_i32_211 v323
  v324.toNat
def k0_dev9 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_247 : BitVec 32 := 4#32
  let v351 : BitVec 32 := Scalar.xori v2 c4_i32_247
  let c1_i32_250 : BitVec 32 := 1#32
  let v352 : BitVec 32 := Scalar.muli v351 c1_i32_250
  let v353 : BitVec 32 := Scalar.addi c0_i32_251 v352
  v353.toNat
def k0_dev10 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_288 : BitVec 32 := 4#32
  let v380 : BitVec 32 := Scalar.xori v2 c4_i32_288
  let c1_i32_291 : BitVec 32 := 1#32
  let v381 : BitVec 32 := Scalar.muli v380 c1_i32_291
  let v382 : BitVec 32 := Scalar.addi c0_i32_292 v381
  v382.toNat
def k0_dev11 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_329 : BitVec 32 := 3#32
  let v409 : BitVec 32 := Scalar.xori v2 c3_i32_329
  let c1_i32_332 : BitVec 32 := 1#32
  let v410 : BitVec 32 := Scalar.muli v409 c1_i32_332
  let v411 : BitVec 32 := Scalar.addi c0_i32_333 v410
  v411.toNat
def k0_dev12 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_370 : BitVec 32 := 1#32
  let v438 : BitVec 32 := Scalar.xori v2 c1_i32_370
  let c1_i32_374 : BitVec 32 := 1#32
  let v439 : BitVec 32 := Scalar.muli v438 c1_i32_374
  let v440 : BitVec 32 := Scalar.addi c0_i32_375 v439
  v440.toNat
def k0_dev13 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v575 : BitVec 32 := Scalar.xori v2 c1_i32_464
  let c1_i32_467 : BitVec 32 := 1#32
  let v576 : BitVec 32 := Scalar.muli v575 c1_i32_467
  let v577 : BitVec 32 := Scalar.addi c0_i32_468 v576
  v577.toNat
def k0_dev14 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_557 : BitVec 32 := 4#32
  let v712 : BitVec 32 := Scalar.xori v2 c4_i32_557
  let c1_i32_560 : BitVec 32 := 1#32
  let v713 : BitVec 32 := Scalar.muli v712 c1_i32_560
  let v714 : BitVec 32 := Scalar.addi c0_i32_561 v713
  v714.toNat
def k0_dev15 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_650 : BitVec 32 := 3#32
  let v849 : BitVec 32 := Scalar.xori v2 c3_i32_650
  let c1_i32_653 : BitVec 32 := 1#32
  let v850 : BitVec 32 := Scalar.muli v849 c1_i32_653
  let v851 : BitVec 32 := Scalar.addi c0_i32_654 v850
  v851.toNat
def k0_dev16 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_691 : BitVec 32 := 3#32
  let v878 : BitVec 32 := Scalar.xori v2 c3_i32_691
  let c1_i32_694 : BitVec 32 := 1#32
  let v879 : BitVec 32 := Scalar.muli v878 c1_i32_694
  let v880 : BitVec 32 := Scalar.addi c0_i32_695 v879
  v880.toNat
def k0_dev17 (d0 : Dev nD) : Nat :=
  let c0_i32_736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_732 : BitVec 32 := 1#32
  let v907 : BitVec 32 := Scalar.xori v2 c1_i32_732
  let c1_i32_735 : BitVec 32 := 1#32
  let v908 : BitVec 32 := Scalar.muli v907 c1_i32_735
  let v909 : BitVec 32 := Scalar.addi c0_i32_736 v908
  v909.toNat
def k0_dev18 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_773 : BitVec 32 := 4#32
  let v936 : BitVec 32 := Scalar.xori v2 c4_i32_773
  let c1_i32_776 : BitVec 32 := 1#32
  let v937 : BitVec 32 := Scalar.muli v936 c1_i32_776
  let v938 : BitVec 32 := Scalar.addi c0_i32_777 v937
  v938.toNat
def k0_dev19 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_814 : BitVec 32 := 4#32
  let v965 : BitVec 32 := Scalar.xori v2 c4_i32_814
  let c1_i32_817 : BitVec 32 := 1#32
  let v966 : BitVec 32 := Scalar.muli v965 c1_i32_817
  let v967 : BitVec 32 := Scalar.addi c0_i32_818 v966
  v967.toNat
def k0_dev20 (d0 : Dev nD) : Nat :=
  let c0_i32_859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_855 : BitVec 32 := 3#32
  let v994 : BitVec 32 := Scalar.xori v2 c3_i32_855
  let c1_i32_858 : BitVec 32 := 1#32
  let v995 : BitVec 32 := Scalar.muli v994 c1_i32_858
  let v996 : BitVec 32 := Scalar.addi c0_i32_859 v995
  v996.toNat
def k0_dev21 (d0 : Dev nD) : Nat :=
  let c0_i32_900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_896 : BitVec 32 := 1#32
  let v1023 : BitVec 32 := Scalar.xori v2 c1_i32_896
  let c1_i32_899 : BitVec 32 := 1#32
  let v1024 : BitVec 32 := Scalar.muli v1023 c1_i32_899
  let v1025 : BitVec 32 := Scalar.addi c0_i32_900 v1024
  v1025.toNat
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2048x512 : Shape := ⟨2, ![2048, 512]⟩
abbrev S2x128 : Shape := ⟨2, ![2, 128]⟩
abbrev S128x3072 : Shape := ⟨2, ![128, 3072]⟩
abbrev S2x3072 : Shape := ⟨2, ![2, 3072]⟩
abbrev S2x512 : Shape := ⟨2, ![2, 512]⟩
abbrev S_ : Shape := ⟨0, ![]⟩
abbrev S2x256 : Shape := ⟨2, ![2, 256]⟩
abbrev S2x256x1 : Shape := ⟨3, ![2, 256, 1]⟩
abbrev S2x1x512 : Shape := ⟨3, ![2, 1, 512]⟩
abbrev S2x256x2048 : Shape := ⟨3, ![2, 256, 2048]⟩
abbrev S2x256x32x64 : Shape := ⟨4, ![2, 256, 32, 64]⟩
abbrev S2x32x256x1 : Shape := ⟨4, ![2, 32, 256, 1]⟩
abbrev S2x32x256x256 : Shape := ⟨4, ![2, 32, 256, 256]⟩
abbrev S2x32x256 : Shape := ⟨3, ![2, 32, 256]⟩
abbrev S2x256x32x1 : Shape := ⟨4, ![2, 256, 32, 1]⟩
abbrev S2x32x64x256 : Shape := ⟨4, ![2, 32, 64, 256]⟩

abbrev nBuf : Space → Nat
  | .hbm => 167
  | .vmem => 0
  | .smem => 0
  | _ => 0

abbrev hbmTy0_0 (i : Nat) : BufTy := match i % 128 with
  | 0 => ⟨S2x256x512, .f32⟩
  | 1 => ⟨S512x2048, .f32⟩
  | 2 => ⟨S512x2048, .f32⟩
  | 3 => ⟨S512x2048, .f32⟩
  | 4 => ⟨S2048x512, .f32⟩
  | 5 => ⟨S2x128, .f32⟩
  | 6 => ⟨S128x3072, .f32⟩
  | 7 => ⟨S512x2048, .f32⟩
  | 8 => ⟨S2048x512, .f32⟩
  | 9 => ⟨S2x3072, .f32⟩
  | 10 => ⟨S2x512, .f32⟩
  | 11 => ⟨S2x512, .f32⟩
  | 12 => ⟨S2x512, .f32⟩
  | 13 => ⟨S2x512, .f32⟩
  | 14 => ⟨S2x512, .f32⟩
  | 15 => ⟨S2x512, .f32⟩
  | 16 => ⟨S_, .f32⟩
  | 17 => ⟨S2x256, .f32⟩
  | 18 => ⟨S2x256x1, .f32⟩
  | 19 => ⟨S_, .f32⟩
  | 20 => ⟨S2x256x1, .f32⟩
  | 21 => ⟨S2x256x1, .f32⟩
  | 22 => ⟨S_, .i32⟩
  | 23 => ⟨S_, .f32⟩
  | 24 => ⟨S2x256, .f32⟩
  | 25 => ⟨S2x256x1, .f32⟩
  | 26 => ⟨S_, .f32⟩
  | 27 => ⟨S2x256x1, .f32⟩
  | 28 => ⟨S2x256x1, .f32⟩
  | 29 => ⟨S2x256x512, .f32⟩
  | 30 => ⟨S2x256x512, .f32⟩
  | 31 => ⟨S2x256x512, .f32⟩
  | 32 => ⟨S_, .f32⟩
  | 33 => ⟨S_, .f32⟩
  | 34 => ⟨S_, .f32⟩
  | 35 => ⟨S_, .f32⟩
  | 36 => ⟨S2x256, .f32⟩
  | 37 => ⟨S2x256x1, .f32⟩
  | 38 => ⟨S2x256x1, .f32⟩
  | 39 => ⟨S2x256x1, .f32⟩
  | 40 => ⟨S_, .f32⟩
  | 41 => ⟨S_, .i1⟩
  | 42 => ⟨S_, .f32⟩
  | 43 => ⟨S_, .f32⟩
  | 44 => ⟨S2x256x1, .f32⟩
  | 45 => ⟨S2x256x1, .f32⟩
  | 46 => ⟨S2x256x512, .f32⟩
  | 47 => ⟨S2x256x512, .f32⟩
  | 48 => ⟨S_, .f32⟩
  | 49 => ⟨S2x256x1, .f32⟩
  | 50 => ⟨S2x256x1, .f32⟩
  | 51 => ⟨S2x256x1, .f32⟩
  | 52 => ⟨S2x256x512, .f32⟩
  | 53 => ⟨S2x256x512, .f32⟩
  | 54 => ⟨S2x1x512, .f32⟩
  | 55 => ⟨S_, .f32⟩
  | 56 => ⟨S2x1x512, .f32⟩
  | 57 => ⟨S2x1x512, .f32⟩
  | 58 => ⟨S2x256x512, .f32⟩
  | 59 => ⟨S2x256x512, .f32⟩
  | 60 => ⟨S2x1x512, .f32⟩
  | 61 => ⟨S2x256x512, .f32⟩
  | 62 => ⟨S2x256x512, .f32⟩
  | 63 => ⟨S2x256x2048, .f32⟩
  | 64 => ⟨S2x256x32x64, .f32⟩
  | 65 => ⟨S2x256x2048, .f32⟩
  | 66 => ⟨S2x256x32x64, .f32⟩
  | 67 => ⟨S2x256x2048, .f32⟩
  | 68 => ⟨S2x256x32x64, .f32⟩
  | 69 => ⟨S_, .f32⟩
  | 70 => ⟨S2x256x32x64, .f32⟩
  | 71 => ⟨S_, .f32⟩
  | 72 => ⟨S2x32x256x1, .f32⟩
  | 73 => ⟨S_, .f32⟩
  | 74 => ⟨S2x32x256x1, .f32⟩
  | 75 => ⟨S2x32x256x256, .f32⟩
  | 76 => ⟨S_, .f32⟩
  | 77 => ⟨S2x32x256x256, .f32⟩
  | 78 => ⟨S2x32x256x256, .f32⟩
  | 79 => ⟨S_, .f32⟩
  | 80 => ⟨S2x32x256, .f32⟩
  | 81 => ⟨S2x32x256x1, .f32⟩
  | 82 => ⟨S2x32x256x1, .f32⟩
  | 83 => ⟨S2x32x256x1, .f32⟩
  | 84 => ⟨S2x32x256x1, .f32⟩
  | 85 => ⟨S2x32x256x256, .f32⟩
  | 86 => ⟨S2x32x256x256, .f32⟩
  | 87 => ⟨S2x32x256x256, .f32⟩
  | 88 => ⟨S2x32x256x1, .f32⟩
  | 89 => ⟨S_, .f32⟩
  | 90 => ⟨S2x32x256, .f32⟩
  | 91 => ⟨S2x32x256x1, .f32⟩
  | 92 => ⟨S2x32x256x1, .f32⟩
  | 93 => ⟨S2x256x32x1, .f32⟩
  | 94 => ⟨S2x256x32x64, .f32⟩
  | 95 => ⟨S2x256x32x64, .f32⟩
  | 96 => ⟨S2x32x64x256, .f32⟩
  | 97 => ⟨S2x256x32x64, .f32⟩
  | 98 => ⟨S2x256x32x64, .f32⟩
  | 99 => ⟨S2x256x32x1, .f32⟩
  | 100 => ⟨S2x256x32x64, .f32⟩
  | 101 => ⟨S2x256x32x64, .f32⟩
  | 102 => ⟨S2x256x2048, .f32⟩
  | 103 => ⟨S2x256x512, .f32⟩
  | 104 => ⟨S2x1x512, .f32⟩
  | 105 => ⟨S2x256x512, .f32⟩
  | 106 => ⟨S2x256x512, .f32⟩
  | 107 => ⟨S2x256x512, .f32⟩
  | 108 => ⟨S_, .f32⟩
  | 109 => ⟨S2x256, .f32⟩
  | 110 => ⟨S2x256x1, .f32⟩
  | 111 => ⟨S_, .f32⟩
  | 112 => ⟨S2x256x1, .f32⟩
  | 113 => ⟨S2x256x1, .f32⟩
  | 114 => ⟨S_, .i32⟩
  | 115 => ⟨S_, .f32⟩
  | 116 => ⟨S2x256, .f32⟩
  | 117 => ⟨S2x256x1, .f32⟩
  | 118 => ⟨S_, .f32⟩
  | 119 => ⟨S2x256x1, .f32⟩
  | 120 => ⟨S2x256x1, .f32⟩
  | 121 => ⟨S2x256x512, .f32⟩
  | 122 => ⟨S2x256x512, .f32⟩
  | 123 => ⟨S2x256x512, .f32⟩
  | 124 => ⟨S_, .f32⟩
  | 125 => ⟨S_, .f32⟩
  | 126 => ⟨S_, .f32⟩
  | 127 => ⟨S_, .f32⟩
  | _ => ⟨S2x256x512, .f32⟩

abbrev hbmTy0_1 (i : Nat) : BufTy := match i % 128 with
  | 0 => ⟨S2x256, .f32⟩
  | 1 => ⟨S2x256x1, .f32⟩
  | 2 => ⟨S2x256x1, .f32⟩
  | 3 => ⟨S2x256x1, .f32⟩
  | 4 => ⟨S_, .f32⟩
  | 5 => ⟨S_, .i1⟩
  | 6 => ⟨S_, .f32⟩
  | 7 => ⟨S_, .f32⟩
  | 8 => ⟨S2x256x1, .f32⟩
  | 9 => ⟨S2x256x1, .f32⟩
  | 10 => ⟨S2x256x512, .f32⟩
  | 11 => ⟨S2x256x512, .f32⟩
  | 12 => ⟨S_, .f32⟩
  | 13 => ⟨S2x256x1, .f32⟩
  | 14 => ⟨S2x256x1, .f32⟩
  | 15 => ⟨S2x256x1, .f32⟩
  | 16 => ⟨S2x256x512, .f32⟩
  | 17 => ⟨S2x256x512, .f32⟩
  | 18 => ⟨S2x1x512, .f32⟩
  | 19 => ⟨S_, .f32⟩
  | 20 => ⟨S2x1x512, .f32⟩
  | 21 => ⟨S2x1x512, .f32⟩
  | 22 => ⟨S2x256x512, .f32⟩
  | 23 => ⟨S2x256x512, .f32⟩
  | 24 => ⟨S2x1x512, .f32⟩
  | 25 => ⟨S2x256x512, .f32⟩
  | 26 => ⟨S2x256x512, .f32⟩
  | 27 => ⟨S2x256x2048, .f32⟩
  | 28 => ⟨S2x256x2048, .f32⟩
  | 29 => ⟨S2x256x2048, .f32⟩
  | 30 => ⟨S_, .f32⟩
  | 31 => ⟨S2x256x2048, .f32⟩
  | 32 => ⟨S2x256x2048, .f32⟩
  | 33 => ⟨S2x256x2048, .f32⟩
  | 34 => ⟨S2x1x512, .f32⟩
  | 35 => ⟨S2x256x512, .f32⟩
  | 36 => ⟨S2x256x512, .f32⟩
  | 37 => ⟨S2x256x512, .f32⟩
  | 38 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_2 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_3 : Ref sig .tc := ⟨.hbm, 69, rfl⟩
abbrev main_v33 : Ref sig .tc := ⟨.hbm, 70, rfl⟩
abbrev main_cst_4 : Ref sig .tc := ⟨.hbm, 71, rfl⟩
abbrev main_v34 : Ref sig .tc := ⟨.hbm, 72, rfl⟩
abbrev main_cst_5 : Ref sig .tc := ⟨.hbm, 73, rfl⟩
abbrev main_v35 : Ref sig .tc := ⟨.hbm, 74, rfl⟩
abbrev main_v36 : Ref sig .tc := ⟨.hbm, 75, rfl⟩
abbrev main_cst_6 : Ref sig .tc := ⟨.hbm, 76, rfl⟩
abbrev main_v37 : Ref sig .tc := ⟨.hbm, 77, rfl⟩
abbrev main_v38 : Ref sig .tc := ⟨.hbm, 78, rfl⟩
abbrev main_cst_7 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_9 : Ref sig .tc := ⟨.hbm, 108, rfl⟩
abbrev main_v66 : Ref sig .tc := ⟨.hbm, 109, rfl⟩
abbrev main_v67 : Ref sig .tc := ⟨.hbm, 110, rfl⟩
abbrev main_cst_10 : Ref sig .tc := ⟨.hbm, 111, rfl⟩
abbrev main_v68 : Ref sig .tc := ⟨.hbm, 112, rfl⟩
abbrev main_v69 : Ref sig .tc := ⟨.hbm, 113, rfl⟩
abbrev main_c_11 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_cst_0 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_cst_1 : Ref sig .tc := ⟨.hbm, 125, rfl⟩
abbrev main_call1_v8 : Ref sig .tc := ⟨.hbm, 126, rfl⟩
abbrev main_call1_cst_2 : Ref sig .tc := ⟨.hbm, 127, rfl⟩
abbrev main_call1_v9 : Ref sig .tc := ⟨.hbm, 128, rfl⟩
abbrev main_call1_v10 : Ref sig .tc := ⟨.hbm, 129, rfl⟩
abbrev main_call1_v11 : Ref sig .tc := ⟨.hbm, 130, rfl⟩
abbrev main_call1_v12 : Ref sig .tc := ⟨.hbm, 131, rfl⟩
abbrev main_call1_cst_3 : Ref sig .tc := ⟨.hbm, 132, rfl⟩
abbrev main_call1_v13 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_cst_12 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_13 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_cst_14 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩

abbrev nD : Nat := 1
abbrev τ : Topo := Topo.v7x

variable {F : FTy → Type} [FloatOps F]
-- ==== Proof.Pay.lean ====
/-
# The values the kernel stores, once for every batch entry, row part and head

The kernel's text spells its arithmetic out once per batch entry, per row part and per head. Here each of those
computations is written once, over the number of rows `n`, the batch entry `b` and the head's first column `o`; the
theorems at the end say that every value the kernel stores is one of them.
-/
module

public import proofs.«01_k».proof.Proof.Gen.KernelIdeal
public import proofs.«01_k».proof.Proof.Gen.KernelIdeal.Skeleton

@[expose] public section

noncomputable section

namespace Cert.Dit

open Cert.KernelIdeal Cert.KernelIdeal.Gen
open Idealize.ShloMosaic

variable {F : FTy → Type} [FloatOps F]

/-- The shape of an `n` by `k` matrix. -/
abbrev M2 (n k : ℕ) : Shape := ⟨2, ![n, k]⟩
/-- The shape of one batch entry's `n` rows. -/
abbrev M3 (n : ℕ) : Shape := ⟨3, ![1, n, 512]⟩

theorem red_rows (n k : ℕ) : (M2 n k).Reduces [1] ⟨1, ![n]⟩ :=
  ⟨rfl, Nat.one_pos, fun b => by fin_cases b; rfl⟩
theorem cast_col (n : ℕ) : (⟨1, ![n]⟩ : Shape).ShapeCasts (M2 n 1) := by
  simp [Shape.ShapeCasts, Shape.numel]
theorem cast_in (n : ℕ) : (M3 n).ShapeCasts (M2 n 512) := by
  simp [Shape.ShapeCasts, Shape.numel, Fin.prod_univ_succ]
theorem cast_out (n : ℕ) : (M2 n 512).ShapeCasts (M3 n) := by
  simp [Shape.ShapeCasts, Shape.numel, Fin.prod_univ_succ]
theorem bc_col (n k : ℕ) : (M2 n 1).Broadcasts (M2 n k) :=
  ⟨Nat.le_refl 2, fun a => by fin_cases a <;> [exact Or.inr fun _ => rfl; exact Or.inl rfl]⟩
theorem bc_row (n : ℕ) : S1x512.Broadcasts (M2 n 512) :=
  ⟨Nat.le_refl 2, fun a => by fin_cases a <;> [exact Or.inl rfl; exact Or.inr fun _ => rfl]⟩
theorem sl_row (b : Fin 2) : S2x512.Slices ![b.val, 0] S1x512 := by revert b; decide
theorem sl_head (o : ℕ) (ho : o + 64 ≤ 256) : S256x256.Slices ![0, o] S256x64 :=
  ⟨rfl, fun a => by fin_cases a <;> [exact (by decide : 0 + 256 ≤ 256); exact ho]⟩

/-- The mean of each row of 512. -/
def gMean (n : ℕ) (x : FVec F (M2 n 512) .f32) : FVec F (M2 n 1) .f32 :=
  divf (shapeCast (M2 n 1) (multiReduction .add [1] ⟨1, ![n]⟩ x 0x00000000#32 (red_rows n 512) (.inl rfl) rfl) (cast_col n))
    (broadcast (M2 n 1) (Scalar.ofBits .f32 0x44000000#32))

/-- Each row minus its mean. -/
def gCen (n : ℕ) (x : FVec F (M2 n 512) .f32) : FVec F (M2 n 512) .f32 :=
  subf x (broadcastTo (M2 n 512) (gMean n x) (bc_col n 512))

/-- The layer norm of each row. -/
def gLn (n : ℕ) (x : FVec F (M2 n 512) .f32) : FVec F (M2 n 512) .f32 :=
  mulf (gCen n x) (broadcastTo (M2 n 512)
    (rsqrt (addf (gMean n (mulf (gCen n x) (gCen n x))) (broadcast (M2 n 1) (Scalar.ofBits .f32 0x3727C5AC#32)))) (bc_col n 512))

/-- The rows scaled by `1 + sc` and shifted by `sh`, both at batch entry `b`. -/
def gMod (n : ℕ) (b : Fin 2) (sc sh : FVec F S2x512 .f32) (y : FVec F (M2 n 512) .f32) : FVec F (M2 n 512) .f32 :=
  addf (mulf y (broadcastTo (M2 n 512)
      (addf (broadcast S1x512 (Scalar.ofBits .f32 0x3F800000#32)) (extractStridedSlice S1x512 ![b.val, 0] sc (sl_row b))) (bc_row n)))
    (broadcastTo (M2 n 512) (extractStridedSlice S1x512 ![b.val, 0] sh (sl_row b)) (bc_row n))

/-- A matrix product. -/
def gMul (n k m : ℕ) (x : FVec F (M2 n k) .f32) (w : FVec F (M2 k m) .f32) : FVec F (M2 n m) .f32 :=
  matmul (DotDims.plain n k m) none x w (constant (M2 n m) .f32 0x00000000#32)

/-- The scaled scores of one head of 64 columns from column `o` on. -/
def gScore (o : ℕ) (ho : o + 64 ≤ 256) (q k : FVec F S256x256 .f32) : FVec F S256x256 .f32 :=
  mulf (matmul (DotDims.transposedRhs 256 64 256) none (extractStridedSlice S256x64 ![0, o] q (sl_head o ho))
      (extractStridedSlice S256x64 ![0, o] k (sl_head o ho)) (constant S256x256 .f32 0x00000000#32))
    (broadcast S256x256 (Scalar.ofBits .f32 0x3E000000#32))

/-- Each row's exponentials of the scores less their greatest. -/
def gExp (s : FVec F S256x256 .f32) : FVec F S256x256 .f32 :=
  exp (subf s (broadcastTo S256x256 (shapeCast S256x1
    (multiReduction .maximumf [1] S256 s 0xFF800000#32 (red_rows 256 256) (.inl rfl) rfl) (cast_col 256)) (bc_col 256 256)))

/-- Each row divided by its sum. -/
def gNorm (p : FVec F S256x256 .f32) : FVec F S256x256 .f32 :=
  divf p (broadcastTo S256x256 (shapeCast S256x1
    (multiReduction .add [1] S256 p 0x00000000#32 (red_rows 256 256) (.inl rfl) rfl) (cast_col 256)) (bc_col 256 256))

/-- One head's output. -/
def gHead (o : ℕ) (ho : o + 64 ≤ 256) (q k v : FVec F S256x256 .f32) : FVec F S256x64 .f32 :=
  gMul 256 256 64 (gNorm (gExp (gScore o ho q k))) (extractStridedSlice S256x64 ![0, o] v (sl_head o ho))

/-- The four heads side by side. -/
def gHeads (q k v : FVec F S256x256 .f32) : FVec F S256x256 .f32 :=
  concatenate S256x256 1 [⟨S256x64, gHead 0 (by decide) q k v⟩, ⟨S256x64, gHead 64 (by decide) q k v⟩,
    ⟨S256x64, gHead 128 (by decide) q k v⟩, ⟨S256x64, gHead 192 (by decide) q k v⟩]
    concatenates_S256x64_S256x64_S256x64_S256x64_S256x256_d1

/-- A read value recast to its own shape. -/
abbrev same {s : Shape} (w : FVec F s .f32) (h : s.ShapeCasts s) : FVec F s .f32 := shapeCast s w h

/-- The device's attention partial at batch entry `b`. -/
def gAttn (b : Fin 2) (sc sh : FVec F S2x512 .f32) (x : Vec F S1x256x512 .f32) (wq wk wv : Vec F S512x256 .f32) (wo : Vec F S256x512 .f32) :
    FVec F S1x256x512 .f32 :=
  shapeCast S1x256x512 (gMul 256 256 512
    (gHeads
      (gMul 256 512 256 (gMod 256 b sc sh (gLn 256 (shapeCast S256x512 x (cast_in 256)))) (same wq shapeCasts_S512x256_S512x256))
      (gMul 256 512 256 (gMod 256 b sc sh (gLn 256 (shapeCast S256x512 x (cast_in 256)))) (same wk shapeCasts_S512x256_S512x256))
      (gMul 256 512 256 (gMod 256 b sc sh (gLn 256 (shapeCast S256x512 x (cast_in 256)))) (same wv shapeCasts_S512x256_S512x256)))
    (same wo shapeCasts_S256x512_S256x512)) (cast_out 256)

/-- A residual step: the rows `x` plus the gate times the summed partials `a`. -/
def gRes (n : ℕ) (b : Fin 2) (g : FVec F S2x512 .f32) (x a : Vec F (M3 n) .f32) : FVec F (M2 n 512) .f32 :=
  addf (shapeCast (M2 n 512) x (cast_in n))
    (mulf (broadcastTo (M2 n 512) (extractStridedSlice S1x512 ![b.val, 0] g (sl_row b)) (bc_row n)) (shapeCast (M2 n 512) a (cast_in n)))

/-- The residual step's rows as the block the kernel stores. -/
def gResB (n : ℕ) (b : Fin 2) (g : FVec F S2x512 .f32) (x a : Vec F (M3 n) .f32) : FVec F (M3 n) .f32 :=
  shapeCast (M3 n) (gRes n b g x a) (cast_out n)

/-- `u / (1 + exp (0 - u))`. -/
def gSilu (n : ℕ) (u : FVec F (M2 n 256) .f32) : FVec F (M2 n 256) .f32 :=
  divf u (addf (broadcast (M2 n 256) (Scalar.ofBits .f32 0x3F800000#32))
    (exp (subf (broadcast (M2 n 256) (Scalar.ofBits .f32 0x00000000#32)) u)))

/-- The device's feed-forward partial of the rows `h` at batch entry `b`. -/
def gFfn (n : ℕ) (b : Fin 2) (sc sh : FVec F S2x512 .f32) (h : FVec F (M2 n 512) .f32) (w1 : Vec F S512x256 .f32) (w2 : Vec F S256x512 .f32) :
    FVec F (M3 n) .f32 :=
  shapeCast (M3 n) (gMul n 256 512 (gSilu n (gMul n 512 256 (gMod n b sc sh (gLn n h)) (same w1 shapeCasts_S512x256_S512x256)))
    (same w2 shapeCasts_S256x512_S256x512)) (cast_out n)

/-! ## The printed values -/

set_option maxRecDepth 65536
set_option maxHeartbeats 1000000

theorem attn0_eq (sc sh : FVec F S2x512 .f32) (x : Vec F S1x256x512 .f32) (wq wk wv : Vec F S512x256 .f32) (wo : Vec F S256x512 .f32) :
    k0_pay22 (k0_pay15 sc sh (k0_pay9 x) (k0_pay10 x) k0_pay11 wv)
      (k0_pay17 (k0_pay15 sc sh (k0_pay9 x) (k0_pay10 x) k0_pay11 wv) (k0_pay16 sc sh (k0_pay9 x) (k0_pay10 x) k0_pay11 wq wk))
      (k0_pay18 (k0_pay13 sc sh (k0_pay9 x) (k0_pay10 x) k0_pay11 wq) (k0_pay14 sc sh (k0_pay9 x) (k0_pay10 x) k0_pay11 wk) (k0_pay15 sc sh (k0_pay9 x) (k0_pay10 x) k0_pay11 wv))
      (k0_pay19 (k0_pay13 sc sh (k0_pay9 x) (k0_pay10 x) k0_pay11 wq) (k0_pay14 sc sh (k0_pay9 x) (k0_pay10 x) k0_pay11 wk) (k0_pay15 sc sh (k0_pay9 x) (k0_pay10 x) k0_pay11 wv))
      (k0_pay20 (k0_pay13 sc sh (k0_pay9 x) (k0_pay10 x) k0_pay11 wq) (k0_pay14 sc sh (k0_pay9 x) (k0_pay10 x) k0_pay11 wk))
      (k0_pay21 (k0_pay13 sc sh (k0_pay9 x) (k0_pay10 x) k0_pay11 wq) (k0_pay14 sc sh (k0_pay9 x) (k0_pay10 x) k0_pay11 wk)) wo
      = gAttn 0 sc sh x wq wk wv wo := rfl

theorem attn1_eq (sc sh : FVec F S2x512 .f32) (x : Vec F S1x256x512 .f32) (wq wk wv : Vec F S512x256 .f32) (wo : Vec F S256x512 .f32) :
    k0_pay32 (k0_pay26 sh (k0_pay23 x) (k0_pay24 sc) wq) (k0_pay27 sh (k0_pay23 x) (k0_pay24 sc) wk) (k0_pay28 sh (k0_pay23 x) (k0_pay24 sc) wv)
      (k0_pay29 sh (k0_pay23 x) (k0_pay24 sc) wq wk wv) (k0_pay30 sh (k0_pay23 x) (k0_pay24 sc) wq wk) (k0_pay31 sh (k0_pay23 x) (k0_pay24 sc) wq wk) wo
      = gAttn 1 sc sh x wq wk wv wo := rfl

section Parts
variable (g sc sh : FVec F S2x512 .f32) (w1 : Vec F S512x256 .f32) (w2 : Vec F S256x512 .f32)

theorem res_0_0 (x a : Vec F S1x88x512 .f32) : k0_pay42 g x a = gRes 88 0 g x a := rfl
theorem res_0_1 (x a : Vec F S1x88x512 .f32) : k0_pay45 g x a = gRes 88 1 g x a := rfl
theorem resB_0_0 (x a : Vec F S1x88x512 .f32) : k0_pay43 g x a = gResB 88 0 g x a := rfl
theorem resB_0_1 (x a : Vec F S1x88x512 .f32) : k0_pay46 g x a = gResB 88 1 g x a := rfl
theorem ffn_0_0 (x a : Vec F S1x88x512 .f32) : k0_pay44 sc sh (k0_pay42 g x a) w1 w2 = gFfn 88 0 sc sh (gRes 88 0 g x a) w1 w2 := rfl
theorem ffn_0_1 (x a : Vec F S1x88x512 .f32) :
    k0_pay49 (k0_pay47 g sc sh x a) (k0_pay48 w1) (constant S88x256 .f32 0x00000000#32) w2 = gFfn 88 1 sc sh (gRes 88 1 g x a) w1 w2 := rfl
end Parts

end Cert.Dit

end
-- ==== Proof.Body.lean ====
/-
# The kernel's body as a sequence of phases

The body is: a handshake with the three peers, the attention partial of each batch entry, and then eighteen exchange
steps, three of which are followed by the feed-forward partial of a row part and three by the last residual of one.
Each phase is written once here, over the step or the row part; `body_eq` says that the printed body is their sequence.
-/
module

public import proofs.«01_k».proof.Proof.Pay

@[expose] public section

noncomputable section

namespace Cert.Dit

open Cert.KernelIdeal Cert.KernelIdeal.Gen
open Idealize.ShloMosaic Idealize.ShloMosaic.TcCoe Idealize.SL.Sem

variable {F : FTy → Type} [FloatOps F]

/-! ## Row parts and steps -/

/-- The number of rows of part `j`: 88, 88, 80. -/
abbrev rl (j : Fin 3) : ℕ := 88 - 8 * (j.val / 2)
/-- A part's rows of both batch entries. -/
abbrev PS (j : Fin 3) : Shape := ⟨3, ![2, rl j, 512]⟩
/-- The same with the comm buffer's leading axis. -/
abbrev PS1 (j : Fin 3) : Shape := ⟨4, ![1, 2, rl j, 512]⟩
/-- The part step `s` moves. -/
abbrev jo (s : Fin 18) : Fin 3 := ⟨s.val % 3, Nat.mod_lt _ (by decide)⟩

theorem inb_part (j : Fin 3) : ∀ a, (![0, 88 * j.val, 0] : Fin 3 → ℕ) a + (PS j).size a ≤ S2x256x512.size a := by
  revert j; decide
theorem inb_slot (s : Fin 18) : ∀ a, (![s.val, 0, 0, 0] : Fin 4 → ℕ) a + (PS1 (jo s)).size a ≤ S18x2x88x512.size a := by
  revert s; decide
theorem inb_sem (s : Fin 18) : ∀ a, (![s.val] : Fin 1 → ℕ) a + S1.size a ≤ S18.size a := by
  revert s; decide
theorem inb_rows (b : Fin 2) (j : Fin 3) : ∀ a, (![b.val, 88 * j.val, 0] : Fin 3 → ℕ) a + (M3 (rl j)).size a ≤ S2x256x512.size a := by
  revert b j; decide
theorem inb_batch (b : Fin 2) : ∀ a, (![b.val, 0, 0] : Fin 3 → ℕ) a + S1x256x512.size a ≤ S2x256x512.size a := by
  revert b; decide
theorem sq_slot (j : Fin 3) : (PS1 j).Squeezes (PS j) := by revert j; decide
theorem cast_slot (j : Fin 3) : (PS1 j).ShapeCasts (PS j) := by revert j; decide
theorem cast_part (j : Fin 3) : (PS j).ShapeCasts (PS j) := rfl
theorem pos_part (j : Fin 3) : 0 < (PS j).numel := by revert j; decide
theorem pos_slot (j : Fin 3) : 0 < (PS1 j).numel := by revert j; decide
theorem pos_rows (j : Fin 3) : 0 < (M3 (rl j)).numel := by revert j; decide

/-! ## The memrefs -/

abbrev xM : Memref sig .tc .vmem S2x256x512 .f32 := Memref.whole cc0_stg0_0
abbrev qM : Memref sig .tc .vmem S512x256 .f32 := Memref.whole cc0_stg1_0
abbrev kM : Memref sig .tc .vmem S512x256 .f32 := Memref.whole cc0_stg2_0
abbrev vM : Memref sig .tc .vmem S512x256 .f32 := Memref.whole cc0_stg3_0
abbrev woM : Memref sig .tc .vmem S256x512 .f32 := Memref.whole cc0_stg4_0
abbrev teM : Memref sig .tc .vmem S2x128 .f32 := Memref.whole cc0_stg5_0
abbrev wmM : Memref sig .tc .vmem S128x3072 .f32 := Memref.whole cc0_stg6_0
abbrev f1M : Memref sig .tc .vmem S512x256 .f32 := Memref.whole cc0_stg7_0
abbrev f2M : Memref sig .tc .vmem S256x512 .f32 := Memref.whole cc0_stg8_0
abbrev outM : Memref sig .tc .vmem S2x256x512 .f32 := Memref.whole cc0_stg9_0
abbrev accM : Memref sig .tc .vmem S2x256x512 .f32 := Memref.whole cc0_scratch0
abbrev comM : Memref sig .tc .vmem S18x2x88x512 .f32 := Memref.whole cc0_scratch1

/-- Part `j` of a 2 x 256 x 512 buffer. -/
abbrev rP (j : Fin 3) : Rect S2x256x512 := Rect.unit (s := S2x256x512) ![0, 88 * j.val, 0] (PS j).size (inb_part j)
/-- Part `j` of batch entry `b`. -/
abbrev rB (b : Fin 2) (j : Fin 3) : Rect S2x256x512 := Rect.unit (s := S2x256x512) ![b.val, 88 * j.val, 0] (M3 (rl j)).size (inb_rows b j)
/-- Batch entry `b`. -/
abbrev rX (b : Fin 2) : Rect S2x256x512 := Rect.unit (s := S2x256x512) ![b.val, 0, 0] S1x256x512.size (inb_batch b)
/-- Step `s`'s landing slot. -/
abbrev rC (s : Fin 18) : Rect S18x2x88x512 := Rect.unit (s := S18x2x88x512) ![s.val, 0, 0, 0] (PS1 (jo s)).size (inb_slot s)

/-- Part `j` of the accumulator, as the view a step sends. -/
abbrev accP (j : Fin 3) : Memref sig .tc .vmem (PS j) .f32 := accM.slice (rP j) (fun _ => rfl)
/-- Step `s`'s landing slot, as the view a step fills. -/
abbrev slotP (s : Fin 18) : Memref sig .tc .vmem (PS (jo s)) .f32 := (comM.slice (rC s) (fun _ => rfl)).squeeze (PS (jo s)) (sq_slot (jo s))
/-- Step `s`'s send semaphore. -/
abbrev sndS (s : Fin 18) : DmaSem sig := ((cc0_scratch2.slice (Rect.unit (s := S18) ![s.val] S1.size (inb_sem s))).squeeze S_ squeezes_S1_S_).sem
/-- Step `s`'s receive semaphore. -/
abbrev rcvS (s : Fin 18) : DmaSem sig := ((cc0_scratch3.slice (Rect.unit (s := S18) ![s.val] S1.size (inb_sem s))).squeeze S_ squeezes_S1_S_).sem
/-- The barrier semaphore. -/
abbrev barS : Sem sig := (SemArray.scalar (sig.barrier 0 rfl) : Sems sig S_).sem

/-! ## The phases -/

/-- Programs of the body's kind. -/
abbrev PP (F : FTy → Type) [FloatOps F] : Type 1 := Prog (TpuEff nD τ sig (Elt F) Λ₀ .tc) PUnit.{1}

/-- The sum a step stores. -/
def gAdd (j : Fin 3) (a : Vec F (PS j) .f32) (w : Vec F (PS1 j) .f32) : FVec F (PS j) .f32 :=
  shapeCast (PS j) (addf a (shapeCast (PS j) w (cast_slot j))) (cast_part j)

/-- One attention partial into the accumulator. -/
def attnP (b : Fin 2) (sc sh : FVec F S2x512 .f32) (kk : PP F) : PP F :=
  Prog.op (.load xM (rX b).toLoadRect (View.loadsAt_vmem h_S1x256x512)) fun x =>
  Prog.op (.load qM (Rect.unit (s := S512x256) ![0, 0] S512x256.size inb_S512x256_S512x256_0_0).toLoadRect (View.loadsAt_vmem h_S512x256)) fun wq =>
  Prog.op (.load kM (Rect.unit (s := S512x256) ![0, 0] S512x256.size inb_S512x256_S512x256_0_0).toLoadRect (View.loadsAt_vmem h_S512x256)) fun wk =>
  Prog.op (.load vM (Rect.unit (s := S512x256) ![0, 0] S512x256.size inb_S512x256_S512x256_0_0).toLoadRect (View.loadsAt_vmem h_S512x256)) fun wv =>
  Prog.op (.load woM (Rect.unit (s := S256x512) ![0, 0] S256x512.size inb_S256x512_S256x512_0_0).toLoadRect (View.loadsAt_vmem h_S256x512)) fun wo =>
  Prog.op (.load accM (rX b).toLoadRect (View.loadsAt_vmem h_S1x256x512)) fun _ =>
  Prog.op (.store accM (rX b) (gAttn b sc sh x wq wk wv wo) Finset.univ (View.stores_vmem_bits_univ h_S1x256x512 rfl) (.inl rfl)) fun _ => kk

/-- Start step `s`'s transfer of its part to device `n`. -/
def sendP (s : Fin 18) (n : Dev nD) (kk : PP F) : PP F :=
  Prog.op (.enqueueDma (accP (jo s)) (.remote (Dev.tc n) (slotP s) (.dma (sndS s))) (.dma (rcvS s)) (View.wordExact_bits rfl)
    ((View.wordExact_bits rfl).reshape _ _) ⟨⟨rfl, Or.inl rfl⟩, trivial⟩) fun _ => kk

/-- Finish step `s`'s transfer, await the peer's and add it in. -/
def stepP (s : Fin 18) (kk : PP F) : PP F :=
  Prog.op (.waitDma2 (sndS s) (slotP s) (accP (jo s)) ((View.wordExact_bits rfl).reshape _ _) (View.wordExact_bits rfl)) fun _ =>
  Prog.op (.waitDma2 (rcvS s) (accP (jo s)) (slotP s) (View.wordExact_bits rfl) ((View.wordExact_bits rfl).reshape _ _)) fun _ =>
  Prog.op (.load accM (rP (jo s)).toLoadRect (View.loadsAt_vmem (pos_part (jo s)))) fun a =>
  Prog.op (.load comM (rC s).toLoadRect (View.loadsAt_vmem (pos_slot (jo s)))) fun w =>
  Prog.op (.load accM (rP (jo s)).toLoadRect (View.loadsAt_vmem (pos_part (jo s)))) fun _ =>
  Prog.op (.store accM (rP (jo s)) (gAdd (jo s) a w) Finset.univ (View.stores_vmem_bits_univ (pos_part (jo s)) rfl) (.inl rfl)) fun _ => kk

/-- Part `j` of batch entry `b` after the first reduction: the residual into the output, the feed-forward partial into
    the accumulator. -/
def ffnP (b : Fin 2) (j : Fin 3) (g sc sh : FVec F S2x512 .f32) (kk : PP F) : PP F :=
  Prog.op (.load xM (rB b j).toLoadRect (View.loadsAt_vmem (pos_rows j))) fun x =>
  Prog.op (.load accM (rB b j).toLoadRect (View.loadsAt_vmem (pos_rows j))) fun a =>
  Prog.op (.load outM (rB b j).toLoadRect (View.loadsAt_vmem (pos_rows j))) fun _ =>
  Prog.op (.store outM (rB b j) (gResB (rl j) b g x a) Finset.univ (View.stores_vmem_bits_univ (pos_rows j) rfl) (.inl rfl)) fun _ =>
  Prog.op (.load f1M (Rect.unit (s := S512x256) ![0, 0] S512x256.size inb_S512x256_S512x256_0_0).toLoadRect (View.loadsAt_vmem h_S512x256)) fun w1 =>
  Prog.op (.load f2M (Rect.unit (s := S256x512) ![0, 0] S256x512.size inb_S256x512_S256x512_0_0).toLoadRect (View.loadsAt_vmem h_S256x512)) fun w2 =>
  Prog.op (.load accM (rB b j).toLoadRect (View.loadsAt_vmem (pos_rows j))) fun _ =>
  Prog.op (.store accM (rB b j) (gFfn (rl j) b sc sh (gRes (rl j) b g x a) w1 w2) Finset.univ
    (View.stores_vmem_bits_univ (pos_rows j) rfl) (.inl rfl)) fun _ => kk

/-- Part `j` of batch entry `b` after the second reduction: the last residual into the output. -/
def finP (b : Fin 2) (j : Fin 3) (g : FVec F S2x512 .f32) (kk : PP F) : PP F :=
  Prog.op (.load outM (rB b j).toLoadRect (View.loadsAt_vmem (pos_rows j))) fun o =>
  Prog.op (.load accM (rB b j).toLoadRect (View.loadsAt_vmem (pos_rows j))) fun a =>
  Prog.op (.load outM (rB b j).toLoadRect (View.loadsAt_vmem (pos_rows j))) fun _ =>
  Prog.op (.store outM (rB b j) (gResB (rl j) b g o a) Finset.univ (View.stores_vmem_bits_univ (pos_rows j) rfl) (.inl rfl)) fun _ => kk

/-- Load the time embedding and the modulation weights. -/
def modP (kk : Vec F S2x128 .f32 → Vec F S128x3072 .f32 → PP F) : PP F :=
  Prog.op (.load teM (Rect.unit (s := S2x128) ![0, 0] S2x128.size inb_S2x128_S2x128_0_0).toLoadRect (View.loadsAt_vmem h_S2x128)) fun t =>
  Prog.op (.load wmM (Rect.unit (s := S128x3072) ![0, 0] S128x3072.size inb_S128x3072_S128x3072_0_0).toLoadRect (View.loadsAt_vmem h_S128x3072)) fun w =>
  kk t w

/-- The body's phases in order. -/
def bodyP : Prog (TpuEff nD τ sig (Elt F) Λ₀ .tc) PUnit.{1} := do
  let d ← Prog.lift .deviceId
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32
  modP fun t w =>
    attnP 0 (k0_pay3 t w) (k0_pay4 t w) <|
    attnP 1 (k0_pay3 t w) (k0_pay4 t w) <|
    sendP 0 ⟨k0_dev4 d, k0_dev4_lt d⟩ <|
    sendP 1 ⟨k0_dev5 d, k0_dev5_lt d⟩ <|
    sendP 2 ⟨k0_dev6 d, k0_dev6_lt d⟩ <|
    stepP 0 <| sendP 3 ⟨k0_dev7 d, k0_dev7_lt d⟩ <|
    stepP 1 <| sendP 4 ⟨k0_dev8 d, k0_dev8_lt d⟩ <|
    stepP 2 <| sendP 5 ⟨k0_dev9 d, k0_dev9_lt d⟩ <|
    stepP 3 <| sendP 6 ⟨k0_dev10 d, k0_dev10_lt d⟩ <|
    stepP 4 <| sendP 7 ⟨k0_dev11 d, k0_dev11_lt d⟩ <|
    stepP 5 <| sendP 8 ⟨k0_dev12 d, k0_dev12_lt d⟩ <|
    stepP 6 <|
    ffnP 0 0 (k0_pay5 t w) (k0_pay6 t w) (k0_pay7 t w) <| ffnP 1 0 (k0_pay5 t w) (k0_pay6 t w) (k0_pay7 t w) <|
    sendP 9 ⟨k0_dev13 d, k0_dev13_lt d⟩ <|
    stepP 7 <|
    ffnP 0 1 (k0_pay5 t w) (k0_pay6 t w) (k0_pay7 t w) <| ffnP 1 1 (k0_pay5 t w) (k0_pay6 t w) (k0_pay7 t w) <|
    sendP 10 ⟨k0_dev14 d, k0_dev14_lt d⟩ <|
    stepP 8 <|
    ffnP 0 2 (k0_pay5 t w) (k0_pay6 t w) (k0_pay7 t w) <| ffnP 1 2 (k0_pay5 t w) (k0_pay6 t w) (k0_pay7 t w) <|
    sendP 11 ⟨k0_dev15 d, k0_dev15_lt d⟩ <|
    stepP 9 <| sendP 12 ⟨k0_dev16 d, k0_dev16_lt d⟩ <|
    stepP 10 <| sendP 13 ⟨k0_dev17 d, k0_dev17_lt d⟩ <|
    stepP 11 <| sendP 14 ⟨k0_dev18 d, k0_dev18_lt d⟩ <|
    stepP 12 <| sendP 15 ⟨k0_dev19 d, k0_dev19_lt d⟩ <|
    stepP 13 <| sendP 16 ⟨k0_dev20 d, k0_dev20_lt d⟩ <|
    stepP 14 <| sendP 17 ⟨k0_dev21 d, k0_dev21_lt d⟩ <|
    stepP 15 <| finP 0 0 (k0_pay8 t w) <| finP 1 0 (k0_pay8 t w) <|
    stepP 16 <| finP 0 1 (k0_pay8 t w) <| finP 1 1 (k0_pay8 t w) <|
    stepP 17 <| finP 0 2 (k0_pay8 t w) <| finP 1 2 (k0_pay8 t w) <|
    .ret ⟨⟩

set_option maxRecDepth 65536 in
set_option maxHeartbeats 4000000 in
theorem body_eq :
    cc0_body (F := F) xM (Memref.isWhole_whole _) qM (Memref.isWhole_whole _) kM (Memref.isWhole_whole _) vM (Memref.isWhole_whole _)
      woM (Memref.isWhole_whole _) teM (Memref.isWhole_whole _) wmM (Memref.isWhole_whole _) f1M (Memref.isWhole_whole _)
      f2M (Memref.isWhole_whole _) outM (Memref.isWhole_whole _) accM (Memref.isWhole_whole _) comM (Memref.isWhole_whole _)
      cc0_scratch2 cc0_scratch3 = bodyP := by
  rw [cc0_body_eq_skeleton]
  rfl

end Cert.Dit

end
-- ==== Proof.Data.lean ====
/-
# What each buffer holds, step by step

The devices' peers, the staged inputs, and the contents of the accumulator after each reduction stage, as functions
of the arguments of all the devices. The accumulator starts at the attention partials; a stage adds to each row part
the same part of one peer; between the two reductions each part is replaced by its feed-forward partial.
-/
module

public import proofs.«01_k».proof.Proof.Body
public import proofs.«01_k».proof.Proof.Gen.KernelIdeal.Launch
public import Idealize.ShloMosaic.Lib.ValueIdxCore

@[expose] public section

noncomputable section

namespace Cert.Dit

open Cert.KernelIdeal Cert.KernelIdeal.Gen
open Idealize.ShloMosaic Idealize.ShloMosaic.TcCoe Idealize.ShloMosaic.ValueIdx Idealize.SL.Sem

variable {F : FTy → Type} [FloatOps F]

/-! ## Peers -/

/-- The three exclusive-or masks of the exchange. -/
def msk : Fin 3 → ℕ := ![1, 3, 4]
/-- The peer of `c` under mask `μ`. -/
def peer (μ : Fin 3) (c : Dev nD) : Dev nD := ⟨c.val ^^^ msk μ, by revert μ c; decide⟩
theorem peer_peer (μ : Fin 3) (c : Dev nD) : peer μ (peer μ c) = c := by revert μ c; decide
/-- The mask a step uses, and its peer. -/
def mo (s : Fin 18) : Fin 3 := ⟨((s.val % 9) / 3 + 2 * (s.val % 3)) % 3, Nat.mod_lt _ (by decide)⟩
abbrev pr (s : Fin 18) (c : Dev nD) : Dev nD := peer (mo s) c
theorem pr_pr (s : Fin 18) (c : Dev nD) : pr s (pr s c) = c := peer_peer _ _
/-- The mask of part `j` at stage `k`. -/
def mk3 (k : ℕ) (j : Fin 3) : Fin 3 := ⟨(k + 2 * j.val) % 3, Nat.mod_lt _ (by decide)⟩
/-- The contents a step sends, by number. -/
def tb (s : Fin 18) : ℕ := 4 * (s.val / 9) + (s.val % 9) / 3

/-! ## Reading by rows -/

/-- The part a row belongs to. -/
def pt (i : S2x256x512.Idx) : Fin 3 := ⟨(i 1).val / 88, by
  have h : (i 1).val < 256 := (i 1).isLt
  omega⟩

theorem pt_lt (i : S2x256x512.Idx) : (i 1).val - 88 * (pt i).val < rl (pt i) := by
  have h : (i 1).val < 256 := (i 1).isLt
  show (i 1).val - 88 * ((i 1).val / 88) < 88 - 8 * ((i 1).val / 88 / 2)
  omega

/-- A buffer given part by part. -/
def byRows (v : (b : Fin 2) → (j : Fin 3) → FVec F (M3 (rl j)) .f32) : Vec F S2x256x512 .f32 := fun i =>
  v (i 0) (pt i) (ix3 (0 : Fin 1) ⟨(i 1).val - 88 * (pt i).val, pt_lt i⟩ (i 2))

/-- A buffer given batch entry by batch entry. -/
def byBatch (v : Fin 2 → FVec F S1x256x512 .f32) : Vec F S2x256x512 .f32 := fun i => v (i 0) (ix3 (0 : Fin 1) (i 1) (i 2))

/-- Part `j` of batch entry `b`. -/
def rows (b : Fin 2) (j : Fin 3) (f : Vec F S2x256x512 .f32) : Vec F (M3 (rl j)) .f32 := fun y => f ((rB b j).emb y)
/-- Batch entry `b`. -/
def batch (b : Fin 2) (f : Vec F S2x256x512 .f32) : Vec F S1x256x512 .f32 := fun y => f ((rX b).emb y)

omit [FloatOps F] in
theorem byRows_at (v : (b : Fin 2) → (j : Fin 3) → FVec F (M3 (rl j)) .f32) (b : Fin 2) (j : Fin 3) (y : (M3 (rl j)).Idx) :
    byRows v ((rB b j).emb y) = v b j y := by
  have hy : (y 1).val < rl j := (y 1).isLt
  have h0 : (rB b j).emb y 0 = b := Fin.ext (by
    have h : (y 0).val < 1 := (y 0).isLt
    show b.val + 1 * (y 0).val = b.val; omega)
  have h1 : ((rB b j).emb y 1).val = 88 * j.val + (y 1).val := by
    show 88 * j.val + 1 * (y 1).val = _; omega
  have h2 : (rB b j).emb y 2 = y 2 := Fin.ext (by show 0 + 1 * (y 2).val = _; omega)
  have hp : pt ((rB b j).emb y) = j := Fin.ext (by
    show ((rB b j).emb y 1).val / 88 = j.val
    rw [h1]; unfold rl at hy; have := j.isLt; omega)
  generalize (rB b j).emb y = i at h0 h1 h2 hp
  subst hp
  unfold byRows
  rw [h0]
  congr 1
  funext a
  match a with
  | 0 => exact Subsingleton.elim (α := Fin 1) _ _
  | 1 => exact Fin.ext (by show (i 1).val - 88 * (pt i).val = (y 1).val; omega)
  | 2 => exact h2

omit [FloatOps F] in
theorem byBatch_at (v : Fin 2 → FVec F S1x256x512 .f32) (b : Fin 2) (y : S1x256x512.Idx) : byBatch v ((rX b).emb y) = v b y := by
  have h0 : (rX b).emb y 0 = b := Fin.ext (by
    have h : (y 0).val < 1 := (y 0).isLt
    show b.val + 1 * (y 0).val = b.val; omega)
  have h1 : (rX b).emb y 1 = y 1 := Fin.ext (by show 0 + 1 * (y 1).val = _; omega)
  have h2 : (rX b).emb y 2 = y 2 := Fin.ext (by show 0 + 1 * (y 2).val = _; omega)
  unfold byBatch
  rw [h0, h1, h2]
  congr 1
  funext a
  match a with
  | 0 => exact Subsingleton.elim (α := Fin 1) _ _
  | 1 => rfl
  | 2 => rfl

/-! ## The staged inputs -/

variable (m : (ℓ : Loc nD τ sig) → Buf (Elt F) ℓ)

def xst (c : Dev nD) : Vec F S2x256x512 .f32 := (win0_0.blk (0 : Fin 1)).view.read (Elt F) (m ((c : Thread nD τ).loc main_arg0))
def qst (c : Dev nD) : Vec F S512x256 .f32 := (win0_1.blk (0 : Fin 1)).view.read (Elt F) (m ((c : Thread nD τ).loc main_arg1))
def kst (c : Dev nD) : Vec F S512x256 .f32 := (win0_2.blk (0 : Fin 1)).view.read (Elt F) (m ((c : Thread nD τ).loc main_arg2))
def vst (c : Dev nD) : Vec F S512x256 .f32 := (win0_3.blk (0 : Fin 1)).view.read (Elt F) (m ((c : Thread nD τ).loc main_arg3))
def ost (c : Dev nD) : Vec F S256x512 .f32 := (win0_4.blk (0 : Fin 1)).view.read (Elt F) (m ((c : Thread nD τ).loc main_arg4))
def tst (c : Dev nD) : Vec F S2x128 .f32 := (win0_5.blk (0 : Fin 1)).view.read (Elt F) (m ((c : Thread nD τ).loc main_arg5))
def wst (c : Dev nD) : Vec F S128x3072 .f32 := (win0_6.blk (0 : Fin 1)).view.read (Elt F) (m ((c : Thread nD τ).loc main_arg6))
def fst (c : Dev nD) : Vec F S512x256 .f32 := (win0_7.blk (0 : Fin 1)).view.read (Elt F) (m ((c : Thread nD τ).loc main_arg7))
def gst (c : Dev nD) : Vec F S256x512 .f32 := (win0_8.blk (0 : Fin 1)).view.read (Elt F) (m ((c : Thread nD τ).loc main_arg8))

/-- The six rows of the modulation. -/
def scA (c : Dev nD) : FVec F S2x512 .f32 := k0_pay3 (tst m c) (wst m c)
def shA (c : Dev nD) : FVec F S2x512 .f32 := k0_pay4 (tst m c) (wst m c)
def gtA (c : Dev nD) : FVec F S2x512 .f32 := k0_pay5 (tst m c) (wst m c)
def scM (c : Dev nD) : FVec F S2x512 .f32 := k0_pay6 (tst m c) (wst m c)
def shM (c : Dev nD) : FVec F S2x512 .f32 := k0_pay7 (tst m c) (wst m c)
def gtM (c : Dev nD) : FVec F S2x512 .f32 := k0_pay8 (tst m c) (wst m c)

/-! ## The accumulator and the output -/

/-- A device's attention partial. -/
def acc0 (c : Dev nD) : Vec F S2x256x512 .f32 :=
  byBatch fun b => gAttn b (scA m c) (shA m c) (batch b (xst m c)) (qst m c) (kst m c) (vst m c) (ost m c)

/-- Stage `k`: every part added to the peer's. -/
def addAt (k : ℕ) (A : Dev nD → Vec F S2x256x512 .f32) (c : Dev nD) : Vec F S2x256x512 .f32 := fun i =>
  FloatOps.addf (φ := .f32) (A c i) (A (peer (mk3 k (pt i)) c) i)

/-- The output after the first residual, from the reduced attention `A`. -/
def resAt (A : Dev nD → Vec F S2x256x512 .f32) (c : Dev nD) : Vec F S2x256x512 .f32 :=
  byRows fun b j => gResB (rl j) b (gtA m c) (rows b j (xst m c)) (rows b j (A c))

/-- A device's feed-forward partial. -/
def ffnAt (A : Dev nD → Vec F S2x256x512 .f32) (c : Dev nD) : Vec F S2x256x512 .f32 :=
  byRows fun b j => gFfn (rl j) b (scM m c) (shM m c) (gRes (rl j) b (gtA m c) (rows b j (xst m c)) (rows b j (A c))) (fst m c) (gst m c)

/-- The accumulator's contents by number: 0 to 3 the first reduction, 4 to 7 the second. -/
def accAt : ℕ → Dev nD → Vec F S2x256x512 .f32
  | 0 => acc0 m
  | t + 1 => if t % 4 = 3 then ffnAt m (accAt t) else addAt (t % 4) (accAt t)

/-- The output after the first residual. -/
def resOut (c : Dev nD) : Vec F S2x256x512 .f32 := resAt m (accAt m 3) c

/-- The output. -/
def finOut (c : Dev nD) : Vec F S2x256x512 .f32 :=
  byRows fun b j => gResB (rl j) b (gtM m c) (rows b j (resOut m c)) (rows b j (accAt m 7 c))

theorem accAt_ffn : accAt m 4 = ffnAt m (accAt m 3) := rfl

/-- A step adds the peer's part. -/
theorem accAt_step (s : Fin 18) (c : Dev nD) (i : S2x256x512.Idx) (hi : pt i = jo s) :
    accAt m (tb s + 1) c i = FloatOps.addf (φ := .f32) (accAt m (tb s) c i) (accAt m (tb s) (pr s c) i) := by
  have h3 : ∀ s : Fin 18, tb s % 4 ≠ 3 := by decide
  have hm : ∀ s : Fin 18, mk3 (tb s % 4) (jo s) = mo s := by decide
  show (if tb s % 4 = 3 then ffnAt m (accAt m (tb s)) else addAt (tb s % 4) (accAt m (tb s))) c i = _
  rw [if_neg (h3 s)]; unfold addAt; rw [hi, hm s]

end Cert.Dit

end
-- ==== Proof.Proto.lean ====
/-
# The semaphores of the exchange

Every cell is used for one round.

* Device `c`'s barrier cell is signalled by its three peers; the signal of the peer under mask `μ` hands `c` the landing
  slots, in that peer's comm buffer, of the six steps that use `μ`. `c` waits for the three.
* Step `s`'s send cell of `c` is signalled by `c`'s own transfer of part `jo s`, and gives that part back.
* Step `s`'s receive cell of `c` is signalled by the transfer of the step's peer, and hands `c` its own slot, holding the
  peer's part.

A device owes its peers' barrier cells and the receive cells of its later steps; barrier cells are below receive cells,
and these are ordered by their steps.
-/
module

public import proofs.«01_k».proof.Proof.Data
public import Idealize.ShloMosaic.Lib.Pipeline.Launch
public import Idealize.ShloMosaic.Lib.Pipeline.Kit
public import Idealize.ShloMosaic.Lib.Tactic

@[expose] public section

noncomputable section

namespace Cert.Dit

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's, and the exchange's rounds, with three duties at most. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The exchange's semaphores: the barrier, the steps' send ones, the steps' receive ones. -/
abbrev OK : Type := Fin 18 ⊕ Fin 18
abbrev CK : Type := Unit ⊕ OK
abbrev osem : OK → SemLoc sig
  | .inl s => .dma (sndS s)
  | .inr s => .dma (rcvS s)
abbrev csem : CK → SemLoc sig
  | .inl _ => .reg barS
  | .inr k => osem k

theorem csem_inj : Function.Injective csem := by decide

abbrev barC (c : Dev nD) : GSem nD τ sig := ((c : Thread nD τ), .reg barS)
abbrev sndC (c : Dev nD) (s : Fin 18) : GSem nD τ sig := ((c : Thread nD τ), .dma (sndS s))
abbrev rcvC (c : Dev nD) (s : Fin 18) : GSem nD τ sig := ((c : Thread nD τ), .dma (rcvS s))
abbrev kcell (ck : Dev nD × CK) : GSem nD τ sig := ((ck.1 : Thread nD τ), csem ck.2)

/-- Which of the exchange's semaphores one is. -/
def dec (sm : SemLoc sig) : Option CK := by
  classical
  exact if h : ∃ k, csem k = sm then some h.choose else none

theorem dec_csem (k : CK) : dec (csem k) = some k := by
  have h : ∃ k', csem k' = csem k := ⟨k, rfl⟩
  unfold dec; rw [dif_pos h, csem_inj h.choose_spec]
theorem dec_bar : dec (.reg barS) = some (.inl ()) := dec_csem (.inl ())
theorem dec_snd (s : Fin 18) : dec (.dma (sndS s)) = some (.inr (.inl s)) := dec_csem (.inr (.inl s))
theorem dec_rcv (s : Fin 18) : dec (.dma (rcvS s)) = some (.inr (.inr s)) := dec_csem (.inr (.inr s))

/-- The units a step's transfer adds to each of its two semaphores. -/
abbrev NN (s : Fin 18) : ℕ := (slotP s).view.dmaCredit
theorem NN_pos (s : Fin 18) : 0 < NN s := View.dmaCredit_pos _ (pos_part (jo s))

/-! ## The regions -/

/-- Part `j` of device `c`'s accumulator, at the contents `f` has there. -/
def accPts (c : Dev nD) (j : Fin 3) (f : Vec F S2x256x512 .f32) : sProp 𝕄 :=
  (accP j).view.loc (c : Thread nD τ) ↦[(accP j).view.set]{fullShare} f
/-- Step `s`'s slot of device `c`'s comm buffer. -/
def slotPts (c : Dev nD) (s : Fin 18) (f : Vec F S18x2x88x512 .f32) : sProp 𝕄 :=
  (slotP s).view.loc (c : Thread nD τ) ↦[(slotP s).view.set]{fullShare} f

instance accPts_storable (c : Dev nD) (j) (f) : BI.Storable (upEmb : UEmb _ 𝕄) (accPts (F := F) c j f) := by unfold accPts; infer_instance
instance slotPts_storable (c : Dev nD) (s) (f) : BI.Storable (upEmb : UEmb _ 𝕄) (slotPts (F := F) c s f) := by unfold slotPts; infer_instance

/-- What a slot must hold once step `s` of device `c` has landed: the peer's part. -/
def Landed (c : Dev nD) (s : Fin 18) (f : Vec F S18x2x88x512 .f32) : Prop :=
  (slotP s).view.read (Elt F) f = (accP (jo s)).view.read (Elt F) (accAt m (tb s) (pr s c))

/-! ## The schedule -/

/-- The landing slots, in the comm buffer of `c`'s peer under `μ`, of the steps that use `μ`. -/
def barPay (c : Dev nD) (μ : Fin 3) : sProp 𝕄 :=
  bigSep (Finset.univ.filter fun s : Fin 18 => mo s = μ) fun s => iprop(∃ f, slotPts (pr s c) s f)
/-- The part a step sent. -/
def sndPay (c : Dev nD) (s : Fin 18) : sProp 𝕄 := accPts c (jo s) (accAt m (tb s) c)
/-- The slot a step filled. -/
def rcvPay (c : Dev nD) (s : Fin 18) : sProp 𝕄 := iprop(∃ f, ⌜Landed m c s f⌝ ∗ slotPts c s f)

def dut : CK → Finset (Fin 3)
  | .inl _ => Finset.univ
  | .inr _ => {0}
def amt : CK → ℕ
  | .inl _ => 1
  | .inr (.inl s) => NN s
  | .inr (.inr s) => NN s
def payOf (c : Dev nD) : CK → Fin 3 → sProp 𝕄
  | .inl _, μ => barPay c μ
  | .inr (.inl s), _ => sndPay m c s
  | .inr (.inr s), _ => rcvPay m c s

instance payOf_storable (c : Dev nD) (k : CK) (d : Fin 3) : BI.Storable (upEmb : UEmb _ 𝕄) (payOf m c k d) := by
  rcases k with _ | k | k
  · unfold payOf barPay; infer_instance
  · unfold payOf sndPay; infer_instance
  · unfold payOf rcvPay; infer_instance

theorem amt_pos (k : CK) : 0 < amt k := by
  rcases k with _ | k | k
  · exact Nat.one_pos
  · exact NN_pos k
  · exact NN_pos k

/-- The exchange's schedule: one round a cell. -/
def Rd : Rounds.Schedule (GSem nD τ sig) (Fin 3) 𝕄 where
  duties g r := if r = 0 ∧ g.1.2 = .tc then (dec g.2).elim ∅ dut else ∅
  unitless _ := False
  amount g _ _ := (dec g.2).elim 1 amt
  payload g _ d := (dec g.2).elim iprop(emp) fun k => payOf m g.1.1 k d
  amount_pos g _ _ _ := by
    cases h : dec g.2 with
    | none => exact Nat.one_pos
    | some k => exact amt_pos k

instance Rd_storable (g : GSem nD τ sig) (r : ℕ) (d : Fin 3) : BI.Storable (upEmb : UEmb _ 𝕄) ((Rd m).payload g r d) := by
  show BI.Storable upEmb ((dec g.2).elim iprop(emp) fun k => payOf m g.1.1 k d)
  cases h : dec g.2 with
  | none => show BI.Storable upEmb iprop(emp); infer_instance
  | some k => exact payOf_storable m g.1.1 k d

theorem duties_at (c : Dev nD) (k : CK) : (Rd m).duties (kcell (c, k)) 0 = dut k := by
  show (if (0 : ℕ) = 0 ∧ (Proc.tc : Proc τ) = .tc then (dec (csem k)).elim ∅ dut else ∅) = _
  rw [if_pos ⟨rfl, rfl⟩, dec_csem]; rfl
theorem duties_later (g : GSem nD τ sig) : ∀ r, 1 ≤ r → (Rd m).duties g r = ∅ := fun r hr => by
  dsimp only [Rd]; exact if_neg fun h => by omega
theorem amount_at (c : Dev nD) (k : CK) (r : ℕ) (d : Fin 3) : (Rd m).amount (kcell (c, k)) r d = amt k := by
  show (dec (csem k)).elim 1 amt = _; rw [dec_csem]; rfl
theorem payload_at (c : Dev nD) (k : CK) (r : ℕ) (d : Fin 3) : (Rd m).payload (kcell (c, k)) r d = payOf m c k d := by
  show (dec (csem k)).elim iprop(emp) (fun k => payOf m c k d) = _; rw [dec_csem]; rfl

theorem expect_bar (c : Dev nD) : (Rd m).expect (barC c) 0 = 3 := by
  unfold Schedule.expect Schedule.amountOf
  rw [show barC c = kcell (c, .inl ()) from rfl, duties_at, Finset.sum_congr rfl fun d _ => amount_at m c (.inl ()) 0 d]; rfl
theorem expect_snd (c : Dev nD) (s : Fin 18) : (Rd m).expect (sndC c s) 0 = NN s := by
  unfold Schedule.expect Schedule.amountOf
  rw [show sndC c s = kcell (c, .inr (.inl s)) from rfl, duties_at, Finset.sum_congr rfl fun d _ => amount_at m c (.inr (.inl s)) 0 d]
  exact Finset.sum_singleton _ _
theorem expect_rcv (c : Dev nD) (s : Fin 18) : (Rd m).expect (rcvC c s) 0 = NN s := by
  unfold Schedule.expect Schedule.amountOf
  rw [show rcvC c s = kcell (c, .inr (.inr s)) from rfl, duties_at, Finset.sum_congr rfl fun d _ => amount_at m c (.inr (.inr s)) 0 d]
  exact Finset.sum_singleton _ _

theorem rest_snd (c : Dev nD) (s : Fin 18) :
    bigSep ((Rd m).duties (sndC c s) 0 \ ∅) (fun d => (Rd m).payload (sndC c s) 0 d) = sndPay m c s := by
  rw [Finset.sdiff_empty, show sndC c s = kcell (c, .inr (.inl s)) from rfl, duties_at]
  show bigSep {0} _ = _
  rw [bigSep_singleton, payload_at]; rfl
theorem rest_rcv (c : Dev nD) (s : Fin 18) :
    bigSep ((Rd m).duties (rcvC c s) 0 \ ∅) (fun d => (Rd m).payload (rcvC c s) 0 d) = rcvPay m c s := by
  rw [Finset.sdiff_empty, show rcvC c s = kcell (c, .inr (.inr s)) from rfl, duties_at]
  show bigSep {0} _ = _
  rw [bigSep_singleton, payload_at]; rfl
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The steps, mask by mask. -/
theorem bigSep_masks (Φ : Fin 18 → sProp 𝕄) :
    (bigSep Finset.univ fun μ : Fin 3 => bigSep (Finset.univ.filter fun s : Fin 18 => mo s = μ) Φ) = bigSep Finset.univ Φ := by
  have h : ∀ s t : Finset (Fin 18), Disjoint s t → iprop(bigSep s Φ ∗ bigSep t Φ) = bigSep (s ∪ t) Φ :=
    fun s t hd => (bigSep_union hd).symm
  rw [bigSep_fin3, h _ _ (by decide), h _ _ (by decide)]
  exact congrArg (fun S => bigSep S Φ) (by decide)
/-- The three signals together hand `c` every slot it will fill. -/
theorem rest_bar (c : Dev nD) :
    bigSep ((Rd m).duties (barC c) 0 \ ∅) (fun d => (Rd m).payload (barC c) 0 d)
      = bigSep Finset.univ fun s : Fin 18 => (iprop(∃ f, slotPts (pr s c) s f) : sProp 𝕄) := by
  rw [Finset.sdiff_empty, show barC c = kcell (c, .inl ()) from rfl, duties_at]
  show bigSep Finset.univ _ = _
  rw [bigSep_congr (s := Finset.univ) fun d _ => payload_at m c (.inl ()) 0 d]
  exact bigSep_masks _

/-! ## What is owed, and the levels -/

/-- What device `c` owes when its next transfer is step `n`'s: the later steps' receive cells. -/
def Osum (c : Dev nD) (n : ℕ) : CellTallies nD τ sig Unit :=
  (Finset.univ.filter fun s : Fin 18 => n ≤ s.val).sum fun s => tallyAt (rcvC (pr s c) s) () (NN s)
/-- What it owes at launch: these and a unit to each peer's barrier cell. -/
def O₀ (c : Dev nD) : CellTallies nD τ sig Unit :=
  Osum c 0 + tallyAt (barC (peer 2 c)) () 1 + tallyAt (barC (peer 1 c)) () 1 + tallyAt (barC (peer 0 c)) () 1

theorem Osum_step (c : Dev nD) (s : Fin 18) : Osum c s.val = Osum c (s.val + 1) + tallyAt (rcvC (pr s c) s) () (NN s) := by
  unfold Osum
  rw [show (Finset.univ.filter fun t : Fin 18 => s.val ≤ t.val) = insert s (Finset.univ.filter fun t : Fin 18 => s.val + 1 ≤ t.val) from by
    ext t; simp only [Finset.mem_filter, Finset.mem_univ, true_and, Finset.mem_insert, Fin.ext_iff]; omega,
    Finset.sum_insert (by simp), add_comm]
theorem Osum_end (c : Dev nD) : Osum c 18 = 0 := by
  unfold Osum
  rw [show (Finset.univ.filter fun t : Fin 18 => 18 ≤ t.val) = ∅ from by decide, Finset.sum_empty]

theorem Osum_pos {c : Dev nD} {n : ℕ} {g : GSem nD τ sig} {u : Unit} (h : 0 < Osum c n g u) :
    ∃ s : Fin 18, n ≤ s.val ∧ g = rcvC (pr s c) s := by
  unfold Osum at h
  rw [Finset.sum_apply, Finsupp.finset_sum_apply] at h
  obtain ⟨s, hs, hp⟩ := Finset.exists_ne_zero_of_sum_ne_zero (Nat.pos_iff_ne_zero.mp h)
  refine ⟨s, (Finset.mem_filter.mp hs).2, ?_⟩
  rw [tallyAt_apply] at hp
  by_contra hn
  exact hp (if_neg fun h' => hn h'.1)

def L (g : GSem nD τ sig) : Finset Unit := if g.1.2 = .tc then {()} else ∅
def lvl : CK → ℕ
  | .inl _ => 1
  | .inr (.inl _) => 0
  | .inr (.inr s) => s.val + 2
def lv (g : GSem nD τ sig) (_ : Unit) : ℕ := (dec g.2).elim 0 lvl
theorem lv_at (c : Dev nD) (k : CK) : lv (kcell (c, k)) () = lvl k := by unfold lv; rw [show dec (kcell (c, k)).2 = some k from dec_csem k]; rfl
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    (∃ s : Fin 18, g = rcvC (pr s c) s) ∨ ∃ μ, g = barC (peer μ c) := by
  unfold O₀ at h
  simp only [Pi.add_apply, Finsupp.add_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨s, _, hs⟩ := Osum_pos (show 0 < Osum c 0 g u by simpa using h)
  exact hn.1 s hs

/-- A device may wait on a cell of level at most `n` while it owes only cells above `n`. -/
theorem mayWait_cut (c : Dev nD) (sm : SemLoc sig) (n : ℕ) (hn : lv ((c : Thread nD τ), sm) () ≤ n) (O : CellTallies nD τ sig Unit)
    (hO : ∀ g u, 0 < O g u → ∃ ck, g = kcell ck ∧ n < lvl ck.2) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨ck, rfl, _⟩ := hO g u hg; exact Finset.mem_singleton_self _)
    (fun p hp => by rw [Finset.mem_singleton.mp hp]; exact hn)
    (fun g u hg => by obtain ⟨ck, rfl, h⟩ := hO g u hg; rw [show u = () from rfl, lv_at]; exact h)

theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · refine mayWait_cut c _ 0 (by unfold lv; rw [hq]; exact le_refl 0) _ fun g u hg => ?_
    rcases O₀_pos hg with ⟨s, rfl⟩ | ⟨μ, rfl⟩
    · exact ⟨(pr s c, .inr (.inr s)), rfl, Nat.succ_pos _⟩
    · exact ⟨(peer μ c, .inl ()), rfl, Nat.one_pos⟩
  · rw [MayWait_zero]; iintro -; iempintro

theorem mayWait_bar (c : Dev nD) : (levAts L lv : sProp 𝕄) ⊢ MayWait (c : Thread nD τ) (.reg barS) () (Osum c 0) :=
  mayWait_cut c _ 1 (le_of_eq (lv_at c (.inl ()))) _ fun g u hg => by
    obtain ⟨s, _, rfl⟩ := Osum_pos hg
    exact ⟨(pr s c, .inr (.inr s)), rfl, by show 1 < s.val + 2; omega⟩
theorem mayWait_snd (c : Dev nD) (s : Fin 18) (n : ℕ) : (levAts L lv : sProp 𝕄) ⊢ MayWait (c : Thread nD τ) (.dma (sndS s)) () (Osum c n) :=
  mayWait_cut c _ 0 (le_of_eq (lv_at c (.inr (.inl s)))) _ fun g u hg => by
    obtain ⟨s, _, rfl⟩ := Osum_pos hg
    exact ⟨(pr s c, .inr (.inr s)), rfl, by show 0 < s.val + 2; omega⟩
theorem mayWait_rcv (c : Dev nD) (s : Fin 18) (n : ℕ) (hn : s.val < n) :
    (levAts L lv : sProp 𝕄) ⊢ MayWait (c : Thread nD τ) (.dma (rcvS s)) () (Osum c n) :=
  mayWait_cut c _ (s.val + 2) (le_of_eq (lv_at c (.inr (.inr s)))) _ fun g u hg => by
    obtain ⟨t, ht, rfl⟩ := Osum_pos hg
    exact ⟨(pr t c, .inr (.inr t)), rfl, by show s.val + 2 < t.val + 2; omega⟩

end Cert.Dit
end
-- ==== Proof.Phases.lean ====
/-
# The exchange's two phases

Starting a step's transfer, and finishing it: the waits on its two semaphores, and the sum into the accumulator. Each is
proved once for every step.
-/
module

public import proofs.«01_k».proof.Proof.Proto
public import Idealize.ShloMosaic.Lib.Pipeline.Value

@[expose] public section

noncomputable section

namespace Cert.Dit

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What a device holds -/

/-- The exchange's cells, at their names, and the levels. -/
def Ctx (K : Dev nD × CK → ℕ) : sProp 𝕄 :=
  iprop((bigSep Finset.univ fun ck : Dev nD × CK => cellInv ER (Rd m) (K ck) (kcell ck))
    ∗ (bigSep Finset.univ fun ck : Dev nD × CK => reached ER (kcell ck) 0) ∗ levAts L lv)
instance Ctx_persistent (K : Dev nD × CK → ℕ) : BI.Persistent (Ctx m K) := by unfold Ctx; infer_instance

theorem bigSep_take {I : Type} [DecidableEq I] {S : Finset I} {i : I} (h : i ∉ S) (Φ : I → sProp 𝕄) :
    bigSep (insert i S) Φ = iprop(Φ i ∗ bigSep S Φ) := bigSep_insert h

theorem Ctx_inv (K : Dev nD × CK → ℕ) (ck : Dev nD × CK) : Ctx m K ⊢ cellInv ER (Rd m) (K ck) (kcell ck) := by
  unfold Ctx; iintro ⟨HI, -, -⟩
  iapply (show (bigSep Finset.univ fun ck : Dev nD × CK => (cellInv ER (Rd m) (K ck) (kcell ck) : sProp 𝕄)) ⊢ cellInv ER (Rd m) (K ck) (kcell ck)
    from bigSep_elim (Finset.mem_univ ck))
  iexact HI
theorem Ctx_reached (K : Dev nD × CK → ℕ) (ck : Dev nD × CK) : Ctx m K ⊢ reached ER (kcell ck) 0 := by
  unfold Ctx; iintro ⟨-, HR, -⟩
  iapply (show (bigSep Finset.univ fun ck : Dev nD × CK => (reached ER (kcell ck) 0 : sProp 𝕄)) ⊢ reached ER (kcell ck) 0
    from bigSep_elim (Finset.mem_univ ck))
  iexact HR
theorem Ctx_lev (K : Dev nD × CK → ℕ) : Ctx m K ⊢ levAts L lv := by
  unfold Ctx; iintro ⟨-, -, HL⟩; iexact HL

/-- The steps from `n` on, and those before `n`. -/
abbrev ge (n : ℕ) : Finset (Fin 18) := Finset.univ.filter fun s => n ≤ s.val
abbrev lt (n : ℕ) : Finset (Fin 18) := Finset.univ.filter fun s => s.val < n
theorem ge_step (s : Fin 18) : ge s.val = insert s (ge (s.val + 1)) := by
  ext t; simp only [Finset.mem_filter, Finset.mem_univ, true_and, Finset.mem_insert, Fin.ext_iff]; omega
theorem lt_step (s : Fin 18) : lt (s.val + 1) = insert s (lt s.val) := by
  ext t; simp only [Finset.mem_filter, Finset.mem_univ, true_and, Finset.mem_insert, Fin.ext_iff]; omega

/-- What `c` owes, whatever it has waited on. -/
def owesA (c : Dev nD) (O : CellTallies nD τ sig Unit) : sProp 𝕄 := iprop(∃ W, owes (c : Thread nD τ) O W)
/-- What step `s` starts from: its two tokens and the slot it fills. -/
def sendRes (c : Dev nD) (s : Fin 18) : sProp 𝕄 :=
  iprop(dutyTok ER (sndC c s) 0 0 ∗ dutyTok ER (rcvC (pr s c) s) 0 0 ∗ ∃ f, slotPts (pr s c) s f)
/-- What step `s` is finished with: the credit of the peer's transfer, and the positions of its two cells. -/
def recvRes (c : Dev nD) (s : Fin 18) : sProp 𝕄 :=
  iprop(cred (tallyAt (rcvC c s) () (NN s)) ∗ atPos ER (sndC c s) 0 ∅ 0 ∗ atPos ER (rcvC c s) 0 ∅ 0)
/-- What a finished step leaves: its slot, and its two counters at zero. -/
def doneRes (c : Dev nD) (s : Fin 18) : sProp 𝕄 := iprop((∃ f, slotPts c s f) ∗ semVal (sndC c s) 0 ∗ semVal (rcvC c s) 0)
/-- The credit of a transfer under way. -/
def credS (c : Dev nD) (s : Fin 18) : sProp 𝕄 := cred (tallyAt (sndC c s) () (NN s))

/-- Proofs of a program of the body. -/
abbrev WP (c : Dev nD) (p : PP F) (Q : PUnit → sProp 𝕄) : sProp 𝕄 := wp frame (wpE (defs₀ (F := F)) 𝒱₀ (c : Thread nD τ) none) Set.univ p Q

/-! ## Starting a step -/

theorem wp_sendP (K : Dev nD × CK → ℕ) (c : Dev nD) (s : Fin 18) (n : Dev nD) (hn : n = pr s c) (kk : PP F) (Q : PUnit → sProp 𝕄) :
    iprop(Ctx m K ∗ owesA c (Osum c s.val) ∗ bigSep (ge s.val) (sendRes c) ∗ accPts c (jo s) (accAt m (tb s) c))
      ⊢ iprop(((owesA c (Osum c (s.val + 1)) ∗ bigSep (ge (s.val + 1)) (sendRes c) ∗ credS c s) -∗ WP c kk Q) -∗ WP c (sendP s n kk) Q) := by
  subst hn
  rw [ge_step s, bigSep_take (by simp)]
  unfold owesA credS sendP
  iintro ⟨#HC, ⟨%W, HO⟩, ⟨Hr, Hrest⟩, Hacc⟩ Hk
  unfold sendRes
  icases Hr with ⟨Ht1, Ht2, ⟨%fd, Hs⟩⟩
  unfold accPts slotPts
  iapply (Rounds.wp_send_pointsTo 𝒱₀ ER (Rd m) (c : Thread nD τ) none (κ₁ := K (c, .inr (.inl s))) (κ₂ := K (pr s c, .inr (.inr s)))
    (r₁ := 0) (r₂ := 0) (d₁ := 0) (d₂ := 0) (fd := fd) (sS := .dma (sndS s)) (sem := .dma (rcvS s))
    (by rw [duties_at m c (.inr (.inl s))]; exact Finset.mem_singleton_self _)
    (by rw [duties_at m (pr s c) (.inr (.inr s))]; exact Finset.mem_singleton_self _)
    () () (NN s) rfl (amount_at m c (.inr (.inl s)) 0 0) (amount_at m (pr s c) (.inr (.inr s)) 0 0) (Osum c (s.val + 1)) (Osum_step c s) (W := W)
    (by rw [payload_at m c (.inr (.inl s))]; exact BI.Entails.refl _)
    (by
      rw [payload_at m (pr s c) (.inr (.inr s))]
      show _ ⊢ rcvPay m (pr s c) s
      unfold rcvPay slotPts
      iintro H
      iexists ((slotP s).view.write (Elt F) fd ((accP (jo s)).view.read (Elt F) (accAt m (tb s) c)) Finset.univ)
      isplitr
      · ipureintro
        unfold Landed
        rw [pr_pr]
        exact View.read_write_univ _ _
      · iexact H)) $$ [HO Ht1 Ht2 Hs Hacc]
  · isplitr; · iapply (Ctx_inv m K (c, .inr (.inl s))); iexact HC
    isplitr; · iapply (Ctx_inv m K (pr s c, .inr (.inr s))); iexact HC
    isplitl [Hacc]; · iexact Hacc
    isplitl [Hs]; · iexact Hs
    isplitl [HO]; · iexact HO
    isplitl [Ht1]; · iexact Ht1
    isplitr; · iapply (Ctx_reached m K (c, .inr (.inl s))); iexact HC
    isplitl [Ht2]; · iexact Ht2
    iapply (Ctx_reached m K (pr s c, .inr (.inr s))); iexact HC
  iintro ⟨Hc, HO⟩
  iapply Hk
  isplitl [HO]; · iexists W; iexact HO
  isplitl [Hrest]; · iexact Hrest
  iexact Hc

/-! ## Finishing a step -/

theorem credit_acc (s : Fin 18) : (accP (jo s)).view.dmaCredit = NN s := by revert s; decide

theorem part_set (j : Fin 3) : (accP j).view.set = (accM : Memref sig .tc .vmem S2x256x512 .f32).view.setOn (rP j).set :=
  View.set_slice _ _

theorem part_sub (j : Fin 3) : (accM : Memref sig .tc .vmem S2x256x512 .f32).view.setOn (rP j).toLoadRect.set ⊆ (accP j).view.set := by
  rw [part_set]

theorem slot_set (s : Fin 18) : (slotP s).view.set = (comM : Memref sig .tc .vmem S18x2x88x512 .f32).view.setOn (rC s).set :=
  (View.set_reshape (comM.slice (rC s) (fun _ => rfl)).view _).trans (View.set_slice _ _)

theorem slot_sub (s : Fin 18) : (comM : Memref sig .tc .vmem S18x2x88x512 .f32).view.setOn (rC s).toLoadRect.set ⊆ (slotP s).view.set := by
  rw [slot_set]

theorem part_access (j : Fin 3) : (accM.access (rP j)).setOn Finset.univ ⊆ (accP j).view.set := Finset.Subset.refl _

theorem pt_emb (j : Fin 3) (y : (PS j).Idx) : pt ((rP j).emb y) = j := Fin.ext (by
  have hy : (y 1).val < rl j := (y 1).isLt
  show (88 * j.val + 1 * (y 1).val) / 88 = j.val
  unfold rl at hy; have := j.isLt; omega)

/-- The sum a step stores is the accumulator's next contents on the part. -/
theorem step_value (c : Dev nD) (s : Fin 18) (g : Vec F S18x2x88x512 .f32) (hg : Landed m c s g) :
    ∀ i ∈ (accP (jo s)).view.set,
      (accM.access (rP (jo s)) : View sig .tc _ _ _).write (Elt F) (accAt m (tb s) c)
        (gAdd (jo s) (accM.view.readAt (Elt F) (rP (jo s)).toLoadRect (accAt m (tb s) c)) (comM.view.readAt (Elt F) (rC s).toLoadRect g)) Finset.univ i
      = accAt m (tb s + 1) c i := by
  intro i hi
  obtain ⟨y, -, rfl⟩ := Finset.mem_map.mp hi
  have hw := View.write_emb_of_mem (v := (accM.access (rP (jo s)) : View sig .tc _ _ _)) (Val := Elt F) (accAt m (tb s) c)
    (gAdd (jo s) (accM.view.readAt (Elt F) (rP (jo s)).toLoadRect (accAt m (tb s) c)) (comM.view.readAt (Elt F) (rC s).toLoadRect g))
    (Finset.mem_univ y)
  refine hw.trans ?_
  have hg' := congrFun hg y
  refine Eq.trans ?_ (accAt_step m s c ((rP (jo s)).emb y) (pt_emb _ y)).symm
  unfold gAdd
  rw [shapeCast_self, cast_eq]
  exact congrArg (FloatOps.addf (φ := .f32) (accAt m (tb s) c ((rP (jo s)).emb y))) hg'

theorem wp_stepP (K : Dev nD × CK → ℕ) (c : Dev nD) (s : Fin 18) (n : ℕ) (hn : s.val < n) (kk : PP F) (Q : PUnit → sProp 𝕄) :
    iprop(Ctx m K ∗ owesA c (Osum c n) ∗ bigSep (ge s.val) (recvRes c) ∗ bigSep (lt s.val) (doneRes c) ∗ credS c s)
      ⊢ iprop(((owesA c (Osum c n) ∗ bigSep (ge (s.val + 1)) (recvRes c) ∗ bigSep (lt (s.val + 1)) (doneRes c)
              ∗ accPts c (jo s) (accAt m (tb s + 1) c)) -∗ WP c kk Q)
          -∗ WP c (stepP s kk) Q) := by
  rw [ge_step s, bigSep_take (by simp), lt_step s, bigSep_take (by simp)]
  unfold owesA credS stepP
  iintro ⟨#HC, ⟨%W, HO⟩, ⟨Hr, Hrest⟩, Hdone, Hc⟩ Hk
  unfold recvRes
  icases Hr with ⟨Hcv, Has, Hav⟩
  iapply (Rounds.wp_wait_rest_token 𝒱₀ ER (Rd m) (c : Thread nD τ) none (κ := K (c, .inr (.inl s)))
      (wpE_waitDma2_eq 𝒱₀ (c : Thread nD τ) none Set.univ) (Set.mem_univ _) () (O := Osum c n) (W := W) (R := 0) (m := 0) (T := ∅)
      (by rw [Nat.zero_add]; exact (credit_acc s).trans (expect_snd m c s).symm)) $$ [Hc HO Has]
  · isplitr; · iapply (Ctx_inv m K (c, .inr (.inl s))); iexact HC
    isplitl [Hc]
    · iapply (Entails.of_eq (congrArg (fun k => (cred (tallyAt (sndC c s) () k) : sProp 𝕄)) (credit_acc s).symm)); iexact Hc
    isplitl [HO]; · iexact HO
    isplitr; · iapply (mayWait_snd c s n); iapply (Ctx_lev m K); iexact HC
    iexact Has
  iintro ⟨HO, Has, -, Hpay⟩
  ihave Hacc := (Entails.of_eq (rest_snd m c s)) $$ Hpay
  iapply (Rounds.wp_wait_rest_token 𝒱₀ ER (Rd m) (c : Thread nD τ) none (κ := K (c, .inr (.inr s)))
      (wpE_waitDma2_eq 𝒱₀ (c : Thread nD τ) none Set.univ) (Set.mem_univ _) () (O := Osum c n)
      (W := insert (SemLoc.dma (sndS s), ()) W) (R := 0) (m := 0) (T := ∅)
      (by rw [Nat.zero_add]; exact (expect_rcv m c s).symm)) $$ [Hcv HO Hav]
  · isplitr; · iapply (Ctx_inv m K (c, .inr (.inr s))); iexact HC
    isplitl [Hcv]; · iexact Hcv
    isplitl [HO]; · iexact HO
    isplitr; · iapply (mayWait_rcv c s n hn); iapply (Ctx_lev m K); iexact HC
    iexact Hav
  iintro ⟨HO, Hav, -, Hpay⟩
  ihave Hsl := (Entails.of_eq (rest_rcv m c s)) $$ Hpay
  unfold rcvPay sndPay
  icases Hsl with ⟨%g, %hg, Hsl⟩
  imod (Rounds.cell_close ER (Rd m) (Set.mem_univ (K (c, .inr (.inl s)))) (fun h => h) (R := 0 + 1) (duties_later m (sndC c s))) $$ [Has] with Hzs
  · isplitr; · iapply (Ctx_inv m K (c, .inr (.inl s))); iexact HC
    iexact Has
  imod (Rounds.cell_close ER (Rd m) (Set.mem_univ (K (c, .inr (.inr s)))) (fun h => h) (R := 0 + 1) (duties_later m (rcvC c s))) $$ [Hav] with Hzv
  · isplitr; · iapply (Ctx_inv m K (c, .inr (.inr s))); iexact HC
    iexact Hav
  unfold accPts slotPts
  iapply (wp_load 𝒱₀ (c : Thread nD τ) none Set.univ (m := accM) (S := (accP (jo s)).view.set) (part_sub (jo s))) $$ Hacc; iintro Hacc
  iapply (wp_load 𝒱₀ (c : Thread nD τ) none Set.univ (m := comM) (S := (slotP s).view.set) (slot_sub s)) $$ Hsl; iintro Hsl
  iapply (wp_load 𝒱₀ (c : Thread nD τ) none Set.univ (m := accM) (S := (accP (jo s)).view.set) (part_sub (jo s))) $$ Hacc; iintro Hacc
  iapply (wp_store 𝒱₀ (c : Thread nD τ) none Set.univ (m := accM) (r := rP (jo s)) (Mk := Finset.univ) (S := (accP (jo s)).view.set)
    (part_access (jo s))) $$ Hacc; iintro Hacc
  iapply Hk
  isplitl [HO]; · iexists _; iexact HO
  isplitl [Hrest]; · iexact Hrest
  isplitl [Hdone Hsl Hzs Hzv]
  · isplitr [Hdone]
    · unfold doneRes slotPts
      isplitl [Hsl]; · iexists g; iexact Hsl
      isplitl [Hzs] <;> iassumption
    · iexact Hdone
  iapply (Entails.of_eq (pointsTo_congr (step_value m c s g hg)))
  iexact Hacc

end Cert.Dit
end
-- ==== Proof.Local.lean ====
/-
# The phases that stay on a device, and the buffers cut into the regions the exchange moves

The attention partial, the feed-forward partial of a row part and the last residual of one, each proved once for every
part; the accumulator and the output as their three row parts, the comm buffer as its eighteen slots and the rest.
-/
module

public import proofs.«01_k».proof.Proof.Phases

@[expose] public section

noncomputable section

namespace Cert.Dit

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem z2 : (![0, 0] : Fin 2 → ℕ) = fun _ => 0 := by decide

omit [FloatOps F] in
theorem rd_qM (f : Vec F S512x256 .f32) : qM.view.readAt (Elt F) (Rect.unit (s := S512x256) ![0, 0] S512x256.size inb_S512x256_S512x256_0_0).toLoadRect f = f :=
  Memref.readAt_unit_zero (Elt F) cc0_stg1_0 z2 _ f
omit [FloatOps F] in
theorem rd_kM (f : Vec F S512x256 .f32) : kM.view.readAt (Elt F) (Rect.unit (s := S512x256) ![0, 0] S512x256.size inb_S512x256_S512x256_0_0).toLoadRect f = f :=
  Memref.readAt_unit_zero (Elt F) cc0_stg2_0 z2 _ f
omit [FloatOps F] in
theorem rd_vM (f : Vec F S512x256 .f32) : vM.view.readAt (Elt F) (Rect.unit (s := S512x256) ![0, 0] S512x256.size inb_S512x256_S512x256_0_0).toLoadRect f = f :=
  Memref.readAt_unit_zero (Elt F) cc0_stg3_0 z2 _ f
omit [FloatOps F] in
theorem rd_woM (f : Vec F S256x512 .f32) : woM.view.readAt (Elt F) (Rect.unit (s := S256x512) ![0, 0] S256x512.size inb_S256x512_S256x512_0_0).toLoadRect f = f :=
  Memref.readAt_unit_zero (Elt F) cc0_stg4_0 z2 _ f
omit [FloatOps F] in
theorem rd_teM (f : Vec F S2x128 .f32) : teM.view.readAt (Elt F) (Rect.unit (s := S2x128) ![0, 0] S2x128.size inb_S2x128_S2x128_0_0).toLoadRect f = f :=
  Memref.readAt_unit_zero (Elt F) cc0_stg5_0 z2 _ f
omit [FloatOps F] in
theorem rd_wmM (f : Vec F S128x3072 .f32) : wmM.view.readAt (Elt F) (Rect.unit (s := S128x3072) ![0, 0] S128x3072.size inb_S128x3072_S128x3072_0_0).toLoadRect f = f :=
  Memref.readAt_unit_zero (Elt F) cc0_stg6_0 z2 _ f
omit [FloatOps F] in
theorem rd_f1M (f : Vec F S512x256 .f32) : f1M.view.readAt (Elt F) (Rect.unit (s := S512x256) ![0, 0] S512x256.size inb_S512x256_S512x256_0_0).toLoadRect f = f :=
  Memref.readAt_unit_zero (Elt F) cc0_stg7_0 z2 _ f
omit [FloatOps F] in
theorem rd_f2M (f : Vec F S256x512 .f32) : f2M.view.readAt (Elt F) (Rect.unit (s := S256x512) ![0, 0] S256x512.size inb_S256x512_S256x512_0_0).toLoadRect f = f :=
  Memref.readAt_unit_zero (Elt F) cc0_stg8_0 z2 _ f

/-! ## Regions -/

abbrev outP (j : Fin 3) : Memref sig .tc .vmem (PS j) .f32 := outM.slice (rP j) (fun _ => rfl)
/-- Part `j` of device `c`'s output staging buffer. -/
def outPts (c : Dev nD) (j : Fin 3) (f : Vec F S2x256x512 .f32) : sProp 𝕄 :=
  (outP j).view.loc (c : Thread nD τ) ↦[(outP j).view.set]{fullShare} f
/-- A whole buffer of device `c`. -/
abbrev whole (c : Dev nD) (b : Ref sig .tc) (f : Buf (Elt F) ((c : Thread nD τ).loc b)) : sProp 𝕄 := ((c : Thread nD τ).loc b) ↦{fullShare} f

/-- The staged inputs of device `c`. -/
def ins (c : Dev nD) : sProp 𝕄 :=
  iprop(whole c cc0_stg0_0 (xst m c) ∗ whole c cc0_stg1_0 (qst m c) ∗ whole c cc0_stg2_0 (kst m c) ∗ whole c cc0_stg3_0 (vst m c)
    ∗ whole c cc0_stg4_0 (ost m c) ∗ whole c cc0_stg5_0 (tst m c) ∗ whole c cc0_stg6_0 (wst m c) ∗ whole c cc0_stg7_0 (fst m c)
    ∗ whole c cc0_stg8_0 (gst m c))

/-- The elements of part `j`. -/
abbrev partSet (j : Fin 3) : Finset S2x256x512.Idx := (rP j).set

theorem mem_part (j : Fin 3) (i : S2x256x512.Idx) : i ∈ (accP j).view.set ↔ pt i = j := by
  constructor
  · intro h
    obtain ⟨y, -, rfl⟩ := Finset.mem_map.mp h
    exact pt_emb j y
  · rintro rfl
    refine Finset.mem_map.mpr ⟨ix3 (i 0) ⟨(i 1).val - 88 * (pt i).val, pt_lt i⟩ (i 2), Finset.mem_univ _, ?_⟩
    funext a
    match a with
    | 0 => exact Fin.ext (by show 0 + 1 * (i 0).val = _; omega)
    | 1 => exact Fin.ext (by
        show 88 * (pt i).val + 1 * ((i 1).val - 88 * (pt i).val) = (i 1).val
        have : (pt i).val = (i 1).val / 88 := rfl
        omega)
    | 2 => exact Fin.ext (by show 0 + 1 * (i 2).val = _; omega)

theorem parts_disjoint : ∀ t ∈ (Finset.univ : Finset (Fin 3)), ∀ t' ∈ (Finset.univ : Finset (Fin 3)), t ≠ t' →
    Disjoint (accP t).view.set (accP t').view.set := fun t _ t' _ h =>
  Finset.disjoint_left.mpr fun i h1 h2 => h (((mem_part t i).mp h1).symm.trans ((mem_part t' i).mp h2))
theorem parts_cover : (Finset.univ : Finset (Fin 3)).biUnion (fun j => (accP j).view.set) = (Finset.univ : Finset S2x256x512.Idx) :=
  Finset.eq_univ_of_forall fun i => Finset.mem_biUnion.mpr ⟨pt i, Finset.mem_univ _, (mem_part _ i).mpr rfl⟩

/-- A buffer whose elements are the row parts', in those parts. -/
theorem part_split (ℓ : Loc nD τ sig) (K : Fin 3 → Finset (Idx ℓ)) (hd : ∀ t ∈ (Finset.univ : Finset (Fin 3)), ∀ t' ∈ (Finset.univ : Finset (Fin 3)), t ≠ t' →
    Disjoint (K t) (K t')) (hc : (Finset.univ : Finset (Fin 3)).biUnion K = Finset.univ) (f : Buf (Elt F) ℓ) :
    (ℓ ↦{fullShare} f : sProp 𝕄) = iprop((ℓ ↦[K 0]{fullShare} f) ∗ (ℓ ↦[K 1]{fullShare} f) ∗ (ℓ ↦[K 2]{fullShare} f)) := by
  rw [← bigSep_fin3 fun j => (ℓ ↦[K j]{fullShare} f : sProp 𝕄), ← pointsTo_biUnion (ℓ := ℓ) (f := f) Finset.univ K hd, hc]

/-- The accumulator, in its three parts. -/
theorem acc_split (c : Dev nD) (f : Vec F S2x256x512 .f32) :
    whole c cc0_scratch0 f = (iprop(accPts c 0 f ∗ accPts c 1 f ∗ accPts c 2 f) : sProp 𝕄) :=
  part_split ((c : Thread nD τ).loc cc0_scratch0) (fun j => (accP j).view.set) parts_disjoint parts_cover f
/-- The output staging buffer, in its three parts. -/
theorem out_split (c : Dev nD) (f : Vec F S2x256x512 .f32) :
    whole c cc0_stg9_0 f = (iprop(outPts c 0 f ∗ outPts c 1 f ∗ outPts c 2 f) : sProp 𝕄) :=
  part_split ((c : Thread nD τ).loc cc0_stg9_0) (fun j => (outP j).view.set) parts_disjoint parts_cover f

/-- The elements of the comm buffer no step uses. -/
def spare : Finset S18x2x88x512.Idx := Finset.univ \ (Finset.univ : Finset (Fin 18)).biUnion fun s => (slotP s).view.set

theorem slot_row (s : Fin 18) (i : S18x2x88x512.Idx) (h : i ∈ (slotP s).view.set) : i 0 = s := by
  rw [slot_set] at h
  obtain ⟨z, hz, rfl⟩ := Finset.mem_map.mp h
  obtain ⟨y, rfl⟩ := (rC s).toLoadRect.exists_idx_of_mem hz
  have hy : (y 0).val < 1 := (y 0).isLt
  exact Fin.ext (by show s.val + 1 * (y 0).val = s.val; omega)

theorem slots_disjoint : ∀ t ∈ (Finset.univ : Finset (Fin 18)), ∀ t' ∈ (Finset.univ : Finset (Fin 18)), t ≠ t' →
    Disjoint (slotP t).view.set (slotP t').view.set := fun t _ t' _ h =>
  Finset.disjoint_left.mpr fun i h1 h2 => h ((slot_row t i h1).symm.trans (slot_row t' i h2))

/-- What no step uses of device `c`'s comm buffer. -/
def sparePts (c : Dev nD) (f : Vec F S18x2x88x512 .f32) : sProp 𝕄 := ((c : Thread nD τ).loc cc0_scratch1) ↦[spare]{fullShare} f

/-- A buffer cut along a disjoint family and what the family leaves. -/
theorem cut_split (ℓ : Loc nD τ sig) (K : Fin 18 → Finset (Idx ℓ)) (hd : ∀ t ∈ (Finset.univ : Finset (Fin 18)), ∀ t' ∈ (Finset.univ : Finset (Fin 18)), t ≠ t' →
    Disjoint (K t) (K t')) (f : Buf (Elt F) ℓ) :
    (ℓ ↦{fullShare} f) ⊢ (iprop((bigSep Finset.univ fun s => ℓ ↦[K s]{fullShare} f)
      ∗ (ℓ ↦[Finset.univ \ (Finset.univ : Finset (Fin 18)).biUnion K]{fullShare} f)) : sProp 𝕄) := by
  rw [← pointsTo_biUnion (ℓ := ℓ) (f := f) Finset.univ K hd]
  exact (pointsTo_split_subset (Finset.subset_univ _)).1
/-- And joined again, every piece at some contents. -/
theorem cut_join (ℓ : Loc nD τ sig) (K : Fin 18 → Finset (Idx ℓ)) (hd : ∀ t ∈ (Finset.univ : Finset (Fin 18)), ∀ t' ∈ (Finset.univ : Finset (Fin 18)), t ≠ t' →
    Disjoint (K t) (K t')) :
    iprop((bigSep Finset.univ fun s => iprop(∃ f, ℓ ↦[K s]{fullShare} f))
      ∗ ∃ f, (ℓ ↦[Finset.univ \ (Finset.univ : Finset (Fin 18)).biUnion K]{fullShare} f)) ⊢ (iprop(∃ f : Buf (Elt F) ℓ, ℓ ↦{fullShare} f) : sProp 𝕄) := by
  iintro ⟨Hs, ⟨%f, Hf⟩⟩
  have : Nonempty (Buf (Elt F) ℓ) := ⟨f⟩
  ihave H := (BI.bigSep_exists_pi Finset.univ (fun (s : Fin 18) (g : Buf (Elt F) ℓ) => (ℓ ↦[K s]{fullShare} g : sProp 𝕄))) $$ Hs
  icases H with ⟨%g, H⟩
  ihave H' := (pointsTo_biUnion_join (ℓ := ℓ) (q := fullShare) Finset.univ K g f hd) $$ H
  icases H' with ⟨%g', -, H'⟩
  iexists ((Finset.univ : Finset (Fin 18)).biUnion K).piecewise g' f
  iapply (pointsTo_join_subset (ℓ := ℓ) (q := fullShare) (g := g') (f := f) (Finset.subset_univ _))
  isplitl [H'] <;> iassumption

theorem com_split (c : Dev nD) (f : Vec F S18x2x88x512 .f32) :
    whole c cc0_scratch1 f ⊢ (iprop((bigSep Finset.univ fun s => slotPts c s f) ∗ sparePts c f) : sProp 𝕄) :=
  cut_split ((c : Thread nD τ).loc cc0_scratch1) (fun s => (slotP s).view.set) slots_disjoint f

theorem com_join (c : Dev nD) :
    iprop((bigSep Finset.univ fun s => iprop(∃ f, slotPts c s f)) ∗ ∃ f, sparePts c f) ⊢ (iprop(∃ f, whole c cc0_scratch1 f) : sProp 𝕄) :=
  cut_join ((c : Thread nD τ).loc cc0_scratch1) (fun s => (slotP s).view.set) slots_disjoint

/-! ## Rows -/

theorem rows_sub (b : Fin 2) (j : Fin 3) : accM.view.setOn (rB b j).toLoadRect.set ⊆ (accP j).view.set := fun i hi => by
  obtain ⟨z, hz, rfl⟩ := Finset.mem_map.mp hi
  obtain ⟨y, rfl⟩ := (rB b j).toLoadRect.exists_idx_of_mem hz
  refine (mem_part j _).mpr (Fin.ext ?_)
  have hy : (y 1).val < rl j := (y 1).isLt
  show (88 * j.val + 1 * (y 1).val) / 88 = j.val
  unfold rl at hy; have := j.isLt; omega

theorem rows_acc (b : Fin 2) (j : Fin 3) : (accM.access (rB b j)).setOn Finset.univ ⊆ (accP j).view.set := fun i hi => by
  obtain ⟨y, -, rfl⟩ := Finset.mem_map.mp hi
  refine (mem_part j _).mpr (Fin.ext ?_)
  have hy : (y 1).val < rl j := (y 1).isLt
  show (88 * j.val + 1 * (y 1).val) / 88 = j.val
  unfold rl at hy; have := j.isLt; omega

/-- Rewrite part `j` of batch entry `b`. -/
def wr (b : Fin 2) (j : Fin 3) (f : Vec F S2x256x512 .f32) (w : FVec F (M3 (rl j)) .f32) : Vec F S2x256x512 .f32 :=
  (accM.access (rB b j) : View sig .tc _ _ _).write (Elt F) f w Finset.univ

theorem wr_at (b : Fin 2) (j : Fin 3) (f : Vec F S2x256x512 .f32) (w : FVec F (M3 (rl j)) .f32) (y : (M3 (rl j)).Idx) :
    wr b j f w ((rB b j).emb y) = w y :=
  (View.write_emb_of_mem (v := (accM.access (rB b j) : View sig .tc _ _ _)) (Val := Elt F) f w (Finset.mem_univ y)).trans (cast_eq _ _)
theorem wr_off (b : Fin 2) (j : Fin 3) (f : Vec F S2x256x512 .f32) (w : FVec F (M3 (rl j)) .f32) (i : S2x256x512.Idx) (h : i 0 ≠ b) :
    wr b j f w i = f i :=
  View.write_of_not_mem (v := (accM.access (rB b j) : View sig .tc _ _ _)) (Val := Elt F) f w Finset.univ fun hi => by
    obtain ⟨y, -, rfl⟩ := Finset.mem_map.mp hi
    have hy : (y 0).val < 1 := (y 0).isLt
    exact h (Fin.ext (by show b.val + 1 * (y 0).val = b.val; omega))

theorem rows_wr (j : Fin 3) (f : Vec F S2x256x512 .f32) (w : FVec F (M3 (rl j)) .f32) : rows 1 j (wr 0 j f w) = rows 1 j f := funext fun y =>
  wr_off 0 j f w _ fun h => by
    have h' : (1 : ℕ) + 1 * (y 0).val = 0 := congrArg Fin.val h
    omega

theorem wr_pt (v : (b : Fin 2) → (j : Fin 3) → FVec F (M3 (rl j)) .f32) (f : Vec F S2x256x512 .f32) (j : Fin 3) (i : S2x256x512.Idx) (hp : pt i = j) :
    wr 1 j (wr 0 j f (v 0 j)) (v 1 j) i = byRows v i := by
  subst hp
  have hr : ∀ b : Fin 2, i 0 = b → i = (rB b (pt i)).emb (ix3 (0 : Fin 1) ⟨(i 1).val - 88 * (pt i).val, pt_lt i⟩ (i 2)) := by
    intro b hb
    funext a
    match a with
    | 0 => exact Fin.ext (by show (i 0).val = b.val + 1 * 0; rw [hb]; omega)
    | 1 => exact Fin.ext (by
        show (i 1).val = 88 * (pt i).val + 1 * ((i 1).val - 88 * (pt i).val)
        have : (pt i).val = (i 1).val / 88 := rfl
        omega)
    | 2 => exact Fin.ext (by show (i 2).val = 0 + 1 * (i 2).val; omega)
  have key : ∀ b : Fin 2, i 0 = b → ∀ f, wr b (pt i) f (v b (pt i)) i = byRows v i := by
    intro b hb f
    have h1 := wr_at b (pt i) f (v b (pt i)) (ix3 (0 : Fin 1) ⟨(i 1).val - 88 * (pt i).val, pt_lt i⟩ (i 2))
    have h2 := byRows_at v b (pt i) (ix3 (0 : Fin 1) ⟨(i 1).val - 88 * (pt i).val, pt_lt i⟩ (i 2))
    rw [← hr b hb] at h1 h2
    exact h1.trans h2.symm
  by_cases hb : i 0 = (1 : Fin 2)
  · exact key 1 hb _
  · rw [wr_off _ _ _ _ _ hb]
    exact key 0 (by have h : (i 0).val < 2 := (i 0).isLt
                    have h' : (i 0).val ≠ 1 := fun e => hb (Fin.ext e)
                    exact Fin.ext (by show (i 0).val = 0; omega)) _

/-- Rewriting both entries' part gives that part of a buffer given part by part. -/
theorem wr_both (v : (b : Fin 2) → (j : Fin 3) → FVec F (M3 (rl j)) .f32) (j : Fin 3) (f : Vec F S2x256x512 .f32) :
    ∀ i ∈ (accP j).view.set, wr 1 j (wr 0 j f (v 0 j)) (v 1 j) i = byRows v i := fun i hi => wr_pt v f j i ((mem_part j i).mp hi)
/-! ## The phases -/

theorem wp_modP (c : Dev nD) (kk : Vec F S2x128 .f32 → Vec F S128x3072 .f32 → PP F) (Q : PUnit → sProp 𝕄) :
    ins m c ⊢ iprop((ins m c -∗ WP c (kk (tst m c) (wst m c)) Q) -∗ WP c (modP kk) Q) := by
  unfold ins modP
  iintro ⟨H0, H1, H2, H3, H4, H5, H6, H7, H8⟩ Hk
  iapply (wp_load 𝒱₀ (c : Thread nD τ) none Set.univ (m := teM) (S := Finset.univ) (Finset.subset_univ _)) $$ H5; iintro H5
  iapply (wp_load 𝒱₀ (c : Thread nD τ) none Set.univ (m := wmM) (S := Finset.univ) (Finset.subset_univ _)) $$ H6; iintro H6
  rw [rd_teM, rd_wmM]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- Rewrite batch entry `b`. -/
def wb (b : Fin 2) (f : Vec F S2x256x512 .f32) (w : FVec F S1x256x512 .f32) : Vec F S2x256x512 .f32 :=
  (accM.access (rX b) : View sig .tc _ _ _).write (Elt F) f w Finset.univ

theorem wb_both (v : Fin 2 → FVec F S1x256x512 .f32) (f : Vec F S2x256x512 .f32) : wb 1 (wb 0 f (v 0)) (v 1) = byBatch v := by
  funext i
  have hr : ∀ b : Fin 2, i 0 = b → i = (rX b).emb (ix3 (0 : Fin 1) (i 1) (i 2)) := by
    intro b hb
    funext a
    match a with
    | 0 => exact Fin.ext (by show (i 0).val = b.val + 1 * 0; rw [hb]; omega)
    | 1 => exact Fin.ext (by show (i 1).val = 0 + 1 * (i 1).val; omega)
    | 2 => exact Fin.ext (by show (i 2).val = 0 + 1 * (i 2).val; omega)
  have key : ∀ b : Fin 2, i 0 = b → ∀ f, wb b f (v b) i = byBatch v i := by
    intro b hb f
    have h1 : wb b f (v b) ((rX b).emb (ix3 (0 : Fin 1) (i 1) (i 2))) = v b (ix3 (0 : Fin 1) (i 1) (i 2)) :=
      (View.write_emb_of_mem (v := (accM.access (rX b) : View sig .tc _ _ _)) (Val := Elt F) f (v b) (Finset.mem_univ _)).trans (cast_eq _ _)
    have h2 := byBatch_at v b (ix3 (0 : Fin 1) (i 1) (i 2))
    rw [← hr b hb] at h1 h2
    exact h1.trans h2.symm
  by_cases hb : i 0 = (1 : Fin 2)
  · exact key 1 hb _
  · have hoff : wb 1 (wb 0 f (v 0)) (v 1) i = wb 0 f (v 0) i :=
      View.write_of_not_mem (v := (accM.access (rX 1) : View sig .tc _ _ _)) (Val := Elt F) _ _ Finset.univ fun hi => by
        obtain ⟨y, -, rfl⟩ := Finset.mem_map.mp hi
        have hy : (y 0).val < 1 := (y 0).isLt
        exact hb (Fin.ext (by show 1 + 1 * (y 0).val = 1; omega))
    rw [hoff]
    exact key 0 (by have h : (i 0).val < 2 := (i 0).isLt
                    have h' : (i 0).val ≠ 1 := fun e => hb (Fin.ext e)
                    exact Fin.ext (by show (i 0).val = 0; omega)) _

theorem wp_attn1 (c : Dev nD) (b : Fin 2) (f : Vec F S2x256x512 .f32) (kk : PP F) (Q : PUnit → sProp 𝕄) :
    iprop(ins m c ∗ whole c cc0_scratch0 f)
      ⊢ iprop(((ins m c ∗ whole c cc0_scratch0
              (wb b f (gAttn b (scA m c) (shA m c) (batch b (xst m c)) (qst m c) (kst m c) (vst m c) (ost m c)))) -∗ WP c kk Q)
          -∗ WP c (attnP b (scA m c) (shA m c) kk) Q) := by
  unfold ins attnP
  iintro ⟨⟨H0, H1, H2, H3, H4, H5, H6, H7, H8⟩, Ha⟩ Hk
  iapply (wp_load 𝒱₀ (c : Thread nD τ) none Set.univ (m := xM) (S := Finset.univ) (Finset.subset_univ _)) $$ H0; iintro H0
  iapply (wp_load 𝒱₀ (c : Thread nD τ) none Set.univ (m := qM) (S := Finset.univ) (Finset.subset_univ _)) $$ H1; iintro H1
  iapply (wp_load 𝒱₀ (c : Thread nD τ) none Set.univ (m := kM) (S := Finset.univ) (Finset.subset_univ _)) $$ H2; iintro H2
  iapply (wp_load 𝒱₀ (c : Thread nD τ) none Set.univ (m := vM) (S := Finset.univ) (Finset.subset_univ _)) $$ H3; iintro H3
  iapply (wp_load 𝒱₀ (c : Thread nD τ) none Set.univ (m := woM) (S := Finset.univ) (Finset.subset_univ _)) $$ H4; iintro H4
  iapply (wp_load 𝒱₀ (c : Thread nD τ) none Set.univ (m := accM) (S := Finset.univ) (Finset.subset_univ _)) $$ Ha; iintro Ha
  rw [rd_qM, rd_kM, rd_vM, rd_woM]
  iapply (wp_store 𝒱₀ (c : Thread nD τ) none Set.univ (m := accM) (r := rX b) (Mk := Finset.univ) (S := Finset.univ)
    (Finset.subset_univ _)) $$ Ha; iintro Ha
  iapply Hk
  isplitr [Ha]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Ha

/-- Both attention partials: the accumulator then holds the device's partial, part by part. -/
theorem wp_attn (c : Dev nD) (f : Vec F S2x256x512 .f32) (kk : PP F) (Q : PUnit → sProp 𝕄) :
    iprop(ins m c ∗ whole c cc0_scratch0 f)
      ⊢ iprop(((ins m c ∗ accPts c 0 (accAt m 0 c) ∗ accPts c 1 (accAt m 0 c) ∗ accPts c 2 (accAt m 0 c)) -∗ WP c kk Q)
          -∗ WP c (attnP 0 (scA m c) (shA m c) (attnP 1 (scA m c) (shA m c) kk)) Q) := by
  rw [← acc_split]
  iintro H Hk
  iapply (wp_attn1 m c 0 f) $$ H
  iintro H
  iapply (wp_attn1 m c 1 _) $$ H
  iintro H
  iapply Hk
  icases H with ⟨Hi, Ha⟩
  isplitl [Hi]; · iexact Hi
  iapply (Entails.of_eq (congrArg (whole c cc0_scratch0) (wb_both (fun b =>
    gAttn b (scA m c) (shA m c) (batch b (xst m c)) (qst m c) (kst m c) (vst m c) (ost m c)) f)))
  iexact Ha

theorem wp_ffn1 (c : Dev nD) (b : Fin 2) (j : Fin 3) (fa fo : Vec F S2x256x512 .f32) (kk : PP F) (Q : PUnit → sProp 𝕄) :
    iprop(ins m c ∗ accPts c j fa ∗ outPts c j fo)
      ⊢ iprop(((ins m c
              ∗ accPts c j (wr b j fa (gFfn (rl j) b (scM m c) (shM m c) (gRes (rl j) b (gtA m c) (rows b j (xst m c)) (rows b j fa)) (fst m c) (gst m c)))
              ∗ outPts c j (wr b j fo (gResB (rl j) b (gtA m c) (rows b j (xst m c)) (rows b j fa)))) -∗ WP c kk Q)
          -∗ WP c (ffnP b j (gtA m c) (scM m c) (shM m c) kk) Q) := by
  unfold ins ffnP accPts outPts
  iintro ⟨⟨H0, H1, H2, H3, H4, H5, H6, H7, H8⟩, Ha, Ho⟩ Hk
  iapply (wp_load 𝒱₀ (c : Thread nD τ) none Set.univ (m := xM) (S := Finset.univ) (Finset.subset_univ _)) $$ H0; iintro H0
  iapply (wp_load 𝒱₀ (c : Thread nD τ) none Set.univ (m := accM) (S := (accP j).view.set) (rows_sub b j)) $$ Ha; iintro Ha
  iapply (wp_load 𝒱₀ (c : Thread nD τ) none Set.univ (m := outM) (S := (outP j).view.set) (rows_sub b j)) $$ Ho; iintro Ho
  iapply (wp_store 𝒱₀ (c : Thread nD τ) none Set.univ (m := outM) (r := rB b j) (Mk := Finset.univ) (S := (outP j).view.set)
    (rows_acc b j)) $$ Ho; iintro Ho
  iapply (wp_load 𝒱₀ (c : Thread nD τ) none Set.univ (m := f1M) (S := Finset.univ) (Finset.subset_univ _)) $$ H7; iintro H7
  iapply (wp_load 𝒱₀ (c : Thread nD τ) none Set.univ (m := f2M) (S := Finset.univ) (Finset.subset_univ _)) $$ H8; iintro H8
  iapply (wp_load 𝒱₀ (c : Thread nD τ) none Set.univ (m := accM) (S := (accP j).view.set) (rows_sub b j)) $$ Ha; iintro Ha
  rw [rd_f1M, rd_f2M]
  iapply (wp_store 𝒱₀ (c : Thread nD τ) none Set.univ (m := accM) (r := rB b j) (Mk := Finset.univ) (S := (accP j).view.set)
    (rows_acc b j)) $$ Ha; iintro Ha
  iapply Hk
  isplitr [Ha Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Ha]; · iexact Ha
  iexact Ho

/-- A part after the first reduction: the residual in the output, the feed-forward partial in the accumulator. -/
theorem wp_ffn (c : Dev nD) (j : Fin 3) (kk : PP F) (Q : PUnit → sProp 𝕄) :
    iprop(ins m c ∗ accPts c j (accAt m 3 c) ∗ ∃ fo, outPts c j fo)
      ⊢ iprop(((ins m c ∗ accPts c j (accAt m 4 c) ∗ outPts c j (resOut m c)) -∗ WP c kk Q)
          -∗ WP c (ffnP 0 j (gtA m c) (scM m c) (shM m c) (ffnP 1 j (gtA m c) (scM m c) (shM m c) kk)) Q) := by
  iintro ⟨Hi, Ha, ⟨%fo, Ho⟩⟩ Hk
  iapply (wp_ffn1 m c 0 j (accAt m 3 c) fo) $$ [Hi Ha Ho]
  · isplitl [Hi]; · iexact Hi
    isplitl [Ha] <;> iassumption
  iintro H
  iapply (wp_ffn1 m c 1 j _ _) $$ H
  rw [rows_wr]
  iintro ⟨Hi, Ha, Ho⟩
  iapply Hk
  isplitl [Hi]; · iexact Hi
  unfold accPts outPts
  isplitl [Ha]
  · iapply (Entails.of_eq (pointsTo_congr (wr_both (fun b j => gFfn (rl j) b (scM m c) (shM m c)
      (gRes (rl j) b (gtA m c) (rows b j (xst m c)) (rows b j (accAt m 3 c))) (fst m c) (gst m c)) j (accAt m 3 c)))); iexact Ha
  · iapply (Entails.of_eq (pointsTo_congr (wr_both (fun b j => gResB (rl j) b (gtA m c) (rows b j (xst m c)) (rows b j (accAt m 3 c))) j fo))); iexact Ho

theorem wp_fin1 (c : Dev nD) (b : Fin 2) (j : Fin 3) (fa fo : Vec F S2x256x512 .f32) (kk : PP F) (Q : PUnit → sProp 𝕄) :
    iprop(accPts c j fa ∗ outPts c j fo)
      ⊢ iprop(((accPts c j fa ∗ outPts c j (wr b j fo (gResB (rl j) b (gtM m c) (rows b j fo) (rows b j fa)))) -∗ WP c kk Q)
          -∗ WP c (finP b j (gtM m c) kk) Q) := by
  unfold finP accPts outPts
  iintro ⟨Ha, Ho⟩ Hk
  iapply (wp_load 𝒱₀ (c : Thread nD τ) none Set.univ (m := outM) (S := (outP j).view.set) (rows_sub b j)) $$ Ho; iintro Ho
  iapply (wp_load 𝒱₀ (c : Thread nD τ) none Set.univ (m := accM) (S := (accP j).view.set) (rows_sub b j)) $$ Ha; iintro Ha
  iapply (wp_load 𝒱₀ (c : Thread nD τ) none Set.univ (m := outM) (S := (outP j).view.set) (rows_sub b j)) $$ Ho; iintro Ho
  iapply (wp_store 𝒱₀ (c : Thread nD τ) none Set.univ (m := outM) (r := rB b j) (Mk := Finset.univ) (S := (outP j).view.set)
    (rows_acc b j)) $$ Ho; iintro Ho
  iapply Hk
  isplitl [Ha]; · iexact Ha
  iexact Ho

/-- A part after the second reduction: the result in the output. -/
theorem wp_fin (c : Dev nD) (j : Fin 3) (kk : PP F) (Q : PUnit → sProp 𝕄) :
    iprop(accPts c j (accAt m 7 c) ∗ outPts c j (resOut m c))
      ⊢ iprop(((accPts c j (accAt m 7 c) ∗ outPts c j (finOut m c)) -∗ WP c kk Q) -∗ WP c (finP 0 j (gtM m c) (finP 1 j (gtM m c) kk)) Q) := by
  iintro H Hk
  iapply (wp_fin1 m c 0 j (accAt m 7 c) (resOut m c)) $$ H
  iintro H
  iapply (wp_fin1 m c 1 j _ _) $$ H
  rw [rows_wr]
  iintro ⟨Ha, Ho⟩
  iapply Hk
  isplitl [Ha]; · iexact Ha
  unfold outPts
  iapply (Entails.of_eq (pointsTo_congr (wr_both (fun b j => gResB (rl j) b (gtM m c) (rows b j (resOut m c)) (rows b j (accAt m 7 c))) j (resOut m c)))); iexact Ho

end Cert.Dit
end
-- ==== Proof.Run.lean ====
/-
# The body at a device

The handshake, then the steps: each finishes its own transfer and the peer's, and starts the part's next one.
-/
module

public import proofs.«01_k».proof.Proof.Local

@[expose] public section

noncomputable section

namespace Cert.Dit

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The handshake -/

/-- What a signal hands over: the slots of `c` that the peer under `μ` fills. -/
theorem barPay_own (c : Dev nD) (μ : Fin 3) :
    (bigSep (Finset.univ.filter fun s : Fin 18 => mo s = μ) fun s => (iprop(∃ f, slotPts c s f) : sProp 𝕄)) = barPay (peer μ c) μ := by
  unfold barPay
  refine bigSep_congr fun s hs => ?_
  have h : mo s = μ := (Finset.mem_filter.mp hs).2
  show _ = iprop(∃ f, slotPts (peer (mo s) (peer μ c)) s f)
  rw [h, peer_peer]

theorem wp_sig (K : Dev nD × CK → ℕ) (c : Dev nD) (μ : Fin 3) (n : Dev nD) (hn : n = peer μ c) (O₁ O : CellTallies nD τ sig Unit)
    (hO : O₁ = O + tallyAt (barC (peer μ c)) () 1) (k : PUnit → PP F) (Q : PUnit → sProp 𝕄) :
    iprop(Ctx m K ∗ owesA c O₁ ∗ dutyTok ER (barC (peer μ c)) 0 μ
        ∗ bigSep (Finset.univ.filter fun s : Fin 18 => mo s = μ) fun s => iprop(∃ f, slotPts c s f))
      ⊢ iprop((owesA c O -∗ WP c (k ⟨⟩) Q) -∗ WP c (Prog.op (.semSignal (n : Thread nD τ) barS 1) k) Q) := by
  subst hn
  rw [barPay_own]
  unfold owesA
  iintro ⟨#HC, ⟨%W, HO⟩, Ht, Hp⟩ Hk
  iapply (Rounds.wp_signal 𝒱₀ ER (Rd m) (c : Thread nD τ) none (dst := (peer μ c : Thread nD τ)) (κ := K (peer μ c, .inl ()))
      (d := μ) (by rw [show ((peer μ c : Thread nD τ), SemLoc.reg barS) = kcell (peer μ c, .inl ()) from rfl, duties_at]; exact Finset.mem_univ _)
      (amount_at m (peer μ c) (.inl ()) 0 μ) () O hO) $$ [HO Ht Hp]
  · isplitr; · iapply (Ctx_inv m K (peer μ c, .inl ())); iexact HC
    isplitl [HO]; · iexact HO
    isplitl [Ht]; · iexact Ht
    isplitl [Hp]
    · iapply (Entails.of_eq ((payload_at m (peer μ c) (.inl ()) 0 μ).trans (by unfold payOf; rfl)).symm); iexact Hp
    · iapply (Ctx_reached m K (peer μ c, .inl ())); iexact HC
  iintro HO
  iapply Hk
  iexists W; iexact HO

theorem wp_bar (K : Dev nD × CK → ℕ) (c : Dev nD) (k : PUnit → PP F) (Q : PUnit → sProp 𝕄) :
    iprop(Ctx m K ∗ owesA c (Osum c 0) ∗ cred (tallyAt (barC c) () 3) ∗ atPos ER (barC c) 0 ∅ 0)
      ⊢ iprop(((owesA c (Osum c 0) ∗ semVal (barC c) 0 ∗ bigSep Finset.univ fun s : Fin 18 => iprop(∃ f, slotPts (pr s c) s f)) -∗ WP c (k ⟨⟩) Q)
          -∗ WP c (Prog.op (.semWait barS 3) k) Q) := by
  unfold owesA
  iintro ⟨#HC, ⟨%W, HO⟩, Hc, Ha⟩ Hk
  iapply (Rounds.wp_wait_rest_token 𝒱₀ ER (Rd m) (c : Thread nD τ) none (κ := K (c, .inl ()))
      (wpE_semWait_eq 𝒱₀ (c : Thread nD τ) none Set.univ) (Set.mem_univ _) () (O := Osum c 0) (W := W) (R := 0) (m := 0) (T := ∅)
      (by rw [Nat.zero_add]; exact (expect_bar m c).symm)) $$ [Hc HO Ha]
  · isplitr; · iapply (Ctx_inv m K (c, .inl ())); iexact HC
    isplitl [Hc]; · iexact Hc
    isplitl [HO]; · iexact HO
    isplitr; · iapply (mayWait_bar c); iapply (Ctx_lev m K); iexact HC
    iexact Ha
  iintro ⟨HO, Ha, -, Hpay⟩
  ihave Hs := (Entails.of_eq (rest_bar m c)) $$ Hpay
  imod (Rounds.cell_close ER (Rd m) (Set.mem_univ (K (c, .inl ()))) (fun h => h) (R := 0 + 1) (duties_later m (barC c))) $$ [Ha] with Hz
  · isplitr; · iapply (Ctx_inv m K (c, .inl ())); iexact HC
    iexact Ha
  iapply Hk
  isplitl [HO]; · iexists _; iexact HO
  isplitl [Hz] <;> iassumption

/-! ## Step by step -/

/-- The steps under way when step `r` is next to be finished, the starts done being those below `p`. -/
abbrev win (r p : ℕ) : Finset (Fin 18) := Finset.univ.filter fun s => r ≤ s.val ∧ s.val < p

/-- Before step `r` is finished and with those below `p` started. -/
def Z (K : Dev nD × CK → ℕ) (c : Dev nD) (r p : ℕ) : sProp 𝕄 :=
  iprop(Ctx m K ∗ owesA c (Osum c p) ∗ bigSep (ge p) (sendRes c) ∗ bigSep (ge r) (recvRes c) ∗ bigSep (lt r) (doneRes c) ∗ bigSep (win r p) (credS c))

theorem wp_start (K : Dev nD × CK → ℕ) (c : Dev nD) (r p p' : ℕ) (s : Fin 18) (j : Fin 3) (t : ℕ) (hp : p = s.val) (hp' : p' = s.val + 1)
    (hj : j = jo s) (ht : t = tb s) (hr : r ≤ s.val) (n : Dev nD) (hn : n = pr s c) (kk : PP F) (Q : PUnit → sProp 𝕄) :
    iprop(Z m K c r p ∗ accPts c j (accAt m t c)) ⊢ iprop((Z m K c r p' -∗ WP c kk Q) -∗ WP c (sendP s n kk) Q) := by
  subst hp hp' hj ht
  have hw : win r (s.val + 1) = insert s (win r s.val) := by
    ext t; simp only [Finset.mem_filter, Finset.mem_univ, true_and, Finset.mem_insert, Fin.ext_iff]; omega
  unfold Z
  rw [hw, bigSep_take (by simp)]
  iintro ⟨⟨#HC, HO, Hs, Hr, Hd, Hc⟩, Ha⟩ Hk
  iapply (wp_sendP m K c s n hn) $$ [HO Hs Ha]
  · isplitr; · iexact HC
    isplitl [HO]; · iexact HO
    isplitl [Hs] <;> iassumption
  iintro ⟨HO, Hs, Hn⟩
  iapply Hk
  isplitr; · iexact HC
  isplitl [HO]; · iexact HO
  isplitl [Hs]; · iexact Hs
  isplitl [Hr]; · iexact Hr
  isplitl [Hd]; · iexact Hd
  isplitl [Hn] <;> iassumption

theorem wp_finish (K : Dev nD × CK → ℕ) (c : Dev nD) (s : Fin 18) (r r' p : ℕ) (j : Fin 3) (t : ℕ) (hr : r = s.val) (hr' : r' = s.val + 1)
    (hj : j = jo s) (ht : t = tb s + 1) (hp : s.val < p) (kk : PP F) (Q : PUnit → sProp 𝕄) :
    Z m K c r p ⊢ iprop(((Z m K c r' p ∗ accPts c j (accAt m t c)) -∗ WP c kk Q) -∗ WP c (stepP s kk) Q) := by
  subst hr hr' hj ht
  have hw : win s.val p = insert s (win (s.val + 1) p) := by
    ext t; simp only [Finset.mem_filter, Finset.mem_univ, true_and, Finset.mem_insert, Fin.ext_iff]; omega
  unfold Z
  rw [hw, bigSep_take (by simp)]
  iintro ⟨#HC, HO, Hs, Hr, Hd, Hn, Hc⟩ Hk
  iapply (wp_stepP m K c s p hp) $$ [HO Hr Hd Hn]
  · isplitr; · iexact HC
    isplitl [HO]; · iexact HO
    isplitl [Hr]; · iexact Hr
    isplitl [Hd] <;> iassumption
  iintro ⟨HO, Hr, Hd, Ha⟩
  iapply Hk
  isplitr [Ha]
  · isplitr; · iexact HC
    isplitl [HO]; · iexact HO
    isplitl [Hs]; · iexact Hs
    isplitl [Hr]; · iexact Hr
    isplitl [Hd] <;> iassumption
  iexact Ha

/-- A step and the part's next. -/
theorem wp_hop (K : Dev nD × CK → ℕ) (c : Dev nD) (s s' : Fin 18) (r r' p p' : ℕ) (hr : r = s.val) (hr' : r' = s.val + 1) (hp : p = s'.val)
    (hp' : p' = s'.val + 1) (hs : s.val < s'.val) (hj : jo s = jo s') (ht : tb s + 1 = tb s') (n : Dev nD)
    (hn : n = pr s' c) (kk : PP F) (Q : PUnit → sProp 𝕄) :
    Z m K c r p ⊢ iprop((Z m K c r' p' -∗ WP c kk Q) -∗ WP c (stepP s (sendP s' n kk)) Q) := by
  iintro HZ Hk
  iapply (wp_finish m K c s r r' p (jo s) (tb s + 1) hr hr' rfl rfl (hp ▸ hs)) $$ HZ
  iintro H
  iapply (wp_start m K c r' p p' s' (jo s) (tb s + 1) hp hp' hj ht (by omega) n hn) $$ H
  iexact Hk

/-- A step, the feed-forward of its part, and the second reduction's first. -/
theorem wp_hopF (K : Dev nD × CK → ℕ) (c : Dev nD) (s s' : Fin 18) (j : Fin 3) (r r' p p' : ℕ) (hr : r = s.val) (hr' : r' = s.val + 1) (hp : p = s'.val)
    (hp' : p' = s'.val + 1) (hs : s.val < s'.val) (hj : j = jo s) (hj' : j = jo s') (ht : 3 = tb s + 1) (ht' : 4 = tb s')
    (n : Dev nD) (hn : n = pr s' c) (kk : PP F) (Q : PUnit → sProp 𝕄) :
    iprop(Z m K c r p ∗ ins m c ∗ ∃ fo, outPts c j fo)
      ⊢ iprop(((Z m K c r' p' ∗ ins m c ∗ outPts c j (resOut m c)) -∗ WP c kk Q)
          -∗ WP c (stepP s (ffnP 0 j (gtA m c) (scM m c) (shM m c) (ffnP 1 j (gtA m c) (scM m c) (shM m c) (sendP s' n kk)))) Q) := by
  iintro ⟨HZ, Hi, Ho⟩ Hk
  iapply (wp_finish m K c s r r' p j 3 hr hr' hj ht (hp ▸ hs)) $$ HZ
  iintro ⟨HZ, Ha⟩
  iapply (wp_ffn m c j) $$ [Hi Ha Ho]
  · isplitl [Hi]; · iexact Hi
    isplitl [Ha] <;> iassumption
  iintro ⟨Hi, Ha, Ho⟩
  iapply (wp_start m K c r' p p' s' j 4 hp hp' hj' ht' (by omega) n hn) $$ [HZ Ha]
  · isplitl [HZ] <;> iassumption
  iintro HZ
  iapply Hk
  isplitl [HZ]; · iexact HZ
  isplitl [Hi] <;> iassumption

/-- A last step and the result of its part. -/
theorem wp_hopE (K : Dev nD × CK → ℕ) (c : Dev nD) (s : Fin 18) (j : Fin 3) (r r' : ℕ) (hr : r = s.val) (hr' : r' = s.val + 1)
    (hj : j = jo s) (ht : 7 = tb s + 1) (kk : PP F) (Q : PUnit → sProp 𝕄) :
    iprop(Z m K c r 18 ∗ outPts c j (resOut m c))
      ⊢ iprop(((Z m K c r' 18 ∗ accPts c j (accAt m 7 c) ∗ outPts c j (finOut m c)) -∗ WP c kk Q)
          -∗ WP c (stepP s (finP 0 j (gtM m c) (finP 1 j (gtM m c) kk))) Q) := by
  iintro ⟨HZ, Ho⟩ Hk
  iapply (wp_finish m K c s r r' 18 j 7 hr hr' hj ht s.isLt) $$ HZ
  iintro ⟨HZ, Ha⟩
  iapply (wp_fin m c j) $$ [Ha Ho]
  · isplitl [Ha] <;> iassumption
  iintro ⟨Ha, Ho⟩
  iapply Hk
  isplitl [HZ]; · iexact HZ
  isplitl [Ha] <;> iassumption

/-! ## The whole body -/

/-- The two tokens of a step's transfer. -/
def toks (c : Dev nD) (s : Fin 18) : sProp 𝕄 := iprop(dutyTok ER (sndC c s) 0 0 ∗ dutyTok ER (rcvC (pr s c) s) 0 0)

/-- What the device's run starts from. -/
def runPre (K : Dev nD × CK → ℕ) (c : Dev nD) : sProp 𝕄 :=
  iprop(Ctx m K ∗ (dutyTok ER (barC (peer 0 c)) 0 0 ∗ dutyTok ER (barC (peer 1 c)) 0 1 ∗ dutyTok ER (barC (peer 2 c)) 0 2)
    ∗ cred (tallyAt (barC c) () 3) ∗ atPos ER (barC c) 0 ∅ 0 ∗ bigSep Finset.univ (toks c) ∗ bigSep Finset.univ (recvRes c))

theorem ge_zero : ge 0 = Finset.univ := by decide
theorem lt_zero : lt 0 = ∅ := by decide
theorem lt_all : lt 18 = Finset.univ := by decide
theorem win_zero : win 0 0 = ∅ := by decide

set_option maxHeartbeats 2000000 in
theorem wp_body (K : Dev nD × CK → ℕ) (c : Dev nD) (fa fo : Vec F S2x256x512 .f32) (fc : Vec F S18x2x88x512 .f32) (Q : PUnit → sProp 𝕄) :
    iprop(runPre m K c ∗ owesA c (O₀ c) ∗ ins m c ∗ whole c cc0_scratch0 fa ∗ whole c cc0_scratch1 fc ∗ whole c cc0_stg9_0 fo)
      ⊢ iprop(((owesA c 0 ∗ ins m c ∗ (∃ f, whole c cc0_scratch0 f) ∗ (∃ f, whole c cc0_scratch1 f) ∗ whole c cc0_stg9_0 (finOut m c)
              ∗ semVal (barC c) 0 ∗ bigSep Finset.univ fun s => iprop(semVal (sndC c s) 0 ∗ semVal (rcvC c s) 0)) -∗ Q ⟨⟩)
          -∗ WP c bodyP Q) := by
  unfold bodyP WP
  simp only [semSignalWord, semWaitWord, Prog.lift, Prog.bind_op, Prog.bind_ret, Prog.pure_eq_ret, wp_deviceId]
  unfold runPre
  iintro ⟨⟨#HC, ⟨Hb0, Hb1, Hb2⟩, Hcb, Hab, Htk, Hrv⟩, HO, Hi, Hacc, Hcom, Hout⟩ Hk
  ihave Hcs := (com_split c fc) $$ Hcom
  icases Hcs with ⟨Hsl, Hsp⟩
  ihave Hsl := (show bigSep Finset.univ (fun s => slotPts c s fc) ⊢ (iprop((bigSep (Finset.univ.filter fun s : Fin 18 => mo s = 0) fun s => iprop(∃ f, slotPts c s f))
      ∗ (bigSep (Finset.univ.filter fun s : Fin 18 => mo s = 1) fun s => iprop(∃ f, slotPts c s f))
      ∗ bigSep (Finset.univ.filter fun s : Fin 18 => mo s = 2) fun s => iprop(∃ f, slotPts c s f)) : sProp 𝕄) from by
    refine BIBase.Entails.trans ?_ (Entails.of_eq ((bigSep_masks fun s : Fin 18 => iprop(∃ f, slotPts c s f)).symm.trans (bigSep_fin3 _)))
    exact bigSep_mono fun s _ => (show slotPts c s fc ⊢ (iprop(∃ f, slotPts c s f) : sProp 𝕄) from by iintro H; iexists fc; iexact H)) $$ Hsl
  icases Hsl with ⟨Hs0, Hs1, Hs2⟩
  iapply (wp_sig m K c 0 _ (by revert c; decide) (O₀ c) _ rfl) $$ [HO Hb0 Hs0]
  · isplitr; · iexact HC
    isplitl [HO]; · iexact HO
    isplitl [Hb0] <;> iassumption
  iintro HO
  iapply (wp_sig m K c 1 _ (by revert c; decide) _ _ rfl) $$ [HO Hb1 Hs1]
  · isplitr; · iexact HC
    isplitl [HO]; · iexact HO
    isplitl [Hb1] <;> iassumption
  iintro HO
  iapply (wp_sig m K c 2 _ (by revert c; decide) _ _ rfl) $$ [HO Hb2 Hs2]
  · isplitr; · iexact HC
    isplitl [HO]; · iexact HO
    isplitl [Hb2] <;> iassumption
  iintro HO
  iapply (wp_bar m K c) $$ [HO Hcb Hab]
  · isplitr; · iexact HC
    isplitl [HO]; · iexact HO
    isplitl [Hcb] <;> iassumption
  iintro ⟨HO, Hzb, Hsl⟩
  ihave Hsend := (show iprop(bigSep Finset.univ (toks c) ∗ bigSep Finset.univ fun s : Fin 18 => iprop(∃ f, slotPts (pr s c) s f))
      ⊢ (bigSep (ge 0) (sendRes c) : sProp 𝕄) from by
    rw [ge_zero, ← bigSep_sep']
    refine bigSep_mono fun s _ => ?_
    unfold toks sendRes
    show iprop((dutyTok ER (sndC c s) 0 0 ∗ dutyTok ER (rcvC (pr s c) s) 0 0) ∗ ∃ f, slotPts (pr s c) s f)
      ⊢ (iprop(dutyTok ER (sndC c s) 0 0 ∗ dutyTok ER (rcvC (pr s c) s) 0 0 ∗ ∃ f, slotPts (pr s c) s f) : sProp 𝕄)
    iintro ⟨⟨H1, H2⟩, H3⟩
    isplitl [H1]; · iexact H1
    isplitl [H2] <;> iassumption) $$ [Htk Hsl]
  · isplitl [Htk] <;> iassumption
  iapply (wp_modP m c) $$ Hi
  iintro Hi
  iapply (wp_attn m c fa) $$ [Hi Hacc]
  · isplitl [Hi] <;> iassumption
  iintro ⟨Hi, Ha0, Ha1, Ha2⟩
  ihave HZ := (show iprop(Ctx m K ∗ owesA c (Osum c 0) ∗ bigSep (ge 0) (sendRes c) ∗ bigSep Finset.univ (recvRes c)) ⊢ Z m K c 0 0 from by
    unfold Z
    rw [ge_zero, lt_zero, win_zero, bigSep_empty, bigSep_empty]
    iintro ⟨H1, H2, H3, H4⟩
    isplitl [H1]; · iexact H1
    isplitl [H2]; · iexact H2
    isplitl [H3]; · iexact H3
    isplitl [H4]; · iexact H4
    isplitr <;> iempintro) $$ [HO Hsend Hrv]
  · isplitr; · iexact HC
    isplitl [HO]; · iexact HO
    isplitl [Hsend] <;> iassumption
  ihave Ho := (Entails.of_eq (out_split c fo)) $$ Hout
  icases Ho with ⟨Ho0, Ho1, Ho2⟩
  iapply (wp_start m K c 0 0 1 0 0 0 rfl rfl rfl rfl (by decide) _ (by revert c; decide)) $$ [HZ Ha0]
  · isplitl [HZ] <;> iassumption
  iintro HZ
  iapply (wp_start m K c 0 1 2 1 1 0 rfl rfl rfl rfl (by decide) _ (by revert c; decide)) $$ [HZ Ha1]
  · isplitl [HZ] <;> iassumption
  iintro HZ
  iapply (wp_start m K c 0 2 3 2 2 0 rfl rfl rfl rfl (by decide) _ (by revert c; decide)) $$ [HZ Ha2]
  · isplitl [HZ] <;> iassumption
  iintro HZ
  iapply (wp_hop m K c 0 3 0 1 3 4 rfl rfl rfl rfl (by decide) rfl rfl _ (by revert c; decide)) $$ HZ; iintro HZ
  iapply (wp_hop m K c 1 4 1 2 4 5 rfl rfl rfl rfl (by decide) rfl rfl _ (by revert c; decide)) $$ HZ; iintro HZ
  iapply (wp_hop m K c 2 5 2 3 5 6 rfl rfl rfl rfl (by decide) rfl rfl _ (by revert c; decide)) $$ HZ; iintro HZ
  iapply (wp_hop m K c 3 6 3 4 6 7 rfl rfl rfl rfl (by decide) rfl rfl _ (by revert c; decide)) $$ HZ; iintro HZ
  iapply (wp_hop m K c 4 7 4 5 7 8 rfl rfl rfl rfl (by decide) rfl rfl _ (by revert c; decide)) $$ HZ; iintro HZ
  iapply (wp_hop m K c 5 8 5 6 8 9 rfl rfl rfl rfl (by decide) rfl rfl _ (by revert c; decide)) $$ HZ; iintro HZ
  iapply (wp_hopF m K c 6 9 0 6 7 9 10 rfl rfl rfl rfl (by decide) rfl rfl rfl rfl _ (by revert c; decide)) $$ [HZ Hi Ho0]
  · isplitl [HZ]; · iexact HZ
    isplitl [Hi]; · iexact Hi
    iexists fo; iexact Ho0
  iintro ⟨HZ, Hi, Ho0⟩
  iapply (wp_hopF m K c 7 10 1 7 8 10 11 rfl rfl rfl rfl (by decide) rfl rfl rfl rfl _ (by revert c; decide)) $$ [HZ Hi Ho1]
  · isplitl [HZ]; · iexact HZ
    isplitl [Hi]; · iexact Hi
    iexists fo; iexact Ho1
  iintro ⟨HZ, Hi, Ho1⟩
  iapply (wp_hopF m K c 8 11 2 8 9 11 12 rfl rfl rfl rfl (by decide) rfl rfl rfl rfl _ (by revert c; decide)) $$ [HZ Hi Ho2]
  · isplitl [HZ]; · iexact HZ
    isplitl [Hi]; · iexact Hi
    iexists fo; iexact Ho2
  iintro ⟨HZ, Hi, Ho2⟩
  iapply (wp_hop m K c 9 12 9 10 12 13 rfl rfl rfl rfl (by decide) rfl rfl _ (by revert c; decide)) $$ HZ; iintro HZ
  iapply (wp_hop m K c 10 13 10 11 13 14 rfl rfl rfl rfl (by decide) rfl rfl _ (by revert c; decide)) $$ HZ; iintro HZ
  iapply (wp_hop m K c 11 14 11 12 14 15 rfl rfl rfl rfl (by decide) rfl rfl _ (by revert c; decide)) $$ HZ; iintro HZ
  iapply (wp_hop m K c 12 15 12 13 15 16 rfl rfl rfl rfl (by decide) rfl rfl _ (by revert c; decide)) $$ HZ; iintro HZ
  iapply (wp_hop m K c 13 16 13 14 16 17 rfl rfl rfl rfl (by decide) rfl rfl _ (by revert c; decide)) $$ HZ; iintro HZ
  iapply (wp_hop m K c 14 17 14 15 17 18 rfl rfl rfl rfl (by decide) rfl rfl _ (by revert c; decide)) $$ HZ; iintro HZ
  iapply (wp_hopE m K c 15 0 15 16 rfl rfl rfl rfl) $$ [HZ Ho0]
  · isplitl [HZ] <;> iassumption
  iintro ⟨HZ, Ha0, Ho0⟩
  iapply (wp_hopE m K c 16 1 16 17 rfl rfl rfl rfl) $$ [HZ Ho1]
  · isplitl [HZ] <;> iassumption
  iintro ⟨HZ, Ha1, Ho1⟩
  iapply (wp_hopE m K c 17 2 17 18 rfl rfl rfl rfl) $$ [HZ Ho2]
  · isplitl [HZ] <;> iassumption
  iintro ⟨HZ, Ha2, Ho2⟩
  unfold WP
  rw [wp_ret]; imodintro
  iapply Hk
  unfold Z
  rw [lt_all, Osum_end]
  icases HZ with ⟨-, HO, -, -, Hd, -⟩
  ihave Hd := (show bigSep Finset.univ (doneRes c) ⊢ (iprop((bigSep Finset.univ fun s => iprop(∃ f, slotPts c s f))
      ∗ bigSep Finset.univ fun s => iprop(semVal (sndC c s) 0 ∗ semVal (rcvC c s) 0)) : sProp 𝕄) from by
    rw [← bigSep_sep']
    exact bigSep_mono fun s _ => by unfold doneRes; exact BI.Entails.refl _) $$ Hd
  icases Hd with ⟨Hsl, Hsv⟩
  isplitl [HO]; · iexact HO
  isplitl [Hi]; · iexact Hi
  isplitl [Ha0 Ha1 Ha2]
  · iexists (accAt m 7 c)
    iapply (Entails.of_eq (acc_split c (accAt m 7 c)).symm)
    isplitl [Ha0]; · iexact Ha0
    isplitl [Ha1] <;> iassumption
  isplitl [Hsl Hsp]
  · iapply (com_join c)
    isplitl [Hsl]; · iexact Hsl
    iexists fc; iexact Hsp
  isplitl [Ho0 Ho1 Ho2]
  · iapply (Entails.of_eq (out_split c (finOut m c)).symm)
    isplitl [Ho0]; · iexact Ho0
    isplitl [Ho1] <;> iassumption
  isplitl [Hzb] <;> iassumption

end Cert.Dit
end
-- ==== Proof.Launch.lean ====
/-
# The launch

The exchange's cells allocated for every device at once, its tokens dealt to the devices that spend them, and the run of
the whole program from any memory with zero counters.
-/
module

public import proofs.«01_k».proof.Proof.Run
public import proofs.«01_k».proof.Proof.Gen.KernelIdeal.Launch
public import Idealize.ShloMosaic.Lib.Pipeline.CollectiveSegs

@[expose] public section

noncomputable section

namespace Cert.Dit

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-! ## What each device starts from and ends with -/

/-- The tokens a device spends. -/
def payToks (c : Dev nD) : sProp 𝕄 :=
  iprop((bigSep Finset.univ fun μ : Fin 3 => dutyTok ER (barC (peer μ c)) 0 μ) ∗ bigSep Finset.univ (toks c))
/-- What the launch's allocation leaves a device. -/
def G' (c : Dev nD) : sProp 𝕄 :=
  iprop((∃ K : Dev nD × CK → ℕ, (bigSep Finset.univ fun ck : Dev nD × CK => cellInv ER (Rd m) (K ck) (kcell ck))
      ∗ bigSep Finset.univ fun ck : Dev nD × CK => reached ER (kcell ck) 0)
    ∗ (bigSep Finset.univ fun k : CK => atPos ER (kcell (c, k)) 0 ∅ 0) ∗ payToks c)
/-- The credit of what others will signal to a device. -/
def credsAt (c : Dev nD) : sProp 𝕄 :=
  iprop(cred (tallyAt (barC c) () 3) ∗ bigSep Finset.univ fun s : Fin 18 => cred (tallyAt (rcvC c s) () (NN s)))
def start (c : Dev nD) : sProp 𝕄 := iprop(G' m c ∗ credsAt c ∗ levAts L lv)
def Φ₀ (c : Dev nD) : sProp 𝕄 := iprop(start m c ∗ (∃ f, whole c cc0_scratch0 f) ∗ ∃ f, whole c cc0_scratch1 f)
def Φ₁ (c : Dev nD) : sProp 𝕄 :=
  iprop((∃ f, whole c cc0_scratch0 f) ∗ (∃ f, whole c cc0_scratch1 f)
    ∗ semVal (barC c) 0 ∗ bigSep Finset.univ fun s => iprop(semVal (sndC c s) 0 ∗ semVal (rcvC c s) 0))

theorem run_intro (c : Dev nD) : start m c ⊢ iprop(∃ K, runPre m K c) := by
  unfold start G' credsAt payToks runPre Ctx
  iintro ⟨⟨⟨%K, #HI, #HR⟩, Hat, Hb, Ht⟩, ⟨Hcb, Hcr⟩, #HL⟩
  iexists K
  isplitr
  · isplitr; · iexact HI
    isplitr; · iexact HR
    iexact HL
  isplitl [Hb]
  · iapply (Entails.of_eq (bigSep_fin3 fun μ : Fin 3 => (dutyTok ER (barC (peer μ c)) 0 μ : sProp 𝕄))); iexact Hb
  ihave Hat := (show (bigSep Finset.univ fun k : CK => atPos ER (kcell (c, k)) 0 ∅ 0)
      ⊢ (iprop(atPos ER (barC c) 0 ∅ 0 ∗ (bigSep Finset.univ fun s : Fin 18 => atPos ER (sndC c s) 0 ∅ 0)
        ∗ bigSep Finset.univ fun s : Fin 18 => atPos ER (rcvC c s) 0 ∅ 0) : sProp 𝕄) from Entails.of_eq (by
    rw [BI.bigSep_univ_sum, BI.bigSep_univ_sum]
    exact congrArg (fun x : sProp 𝕄 => iprop(x ∗ _)) (bigSep_univ_eq_bigSepL [()] (by decide) (by decide) _))) $$ Hat
  icases Hat with ⟨Hab, Has, Hav⟩
  isplitl [Hcb]; · iexact Hcb
  isplitl [Hab]; · iexact Hab
  isplitl [Ht]; · iexact Ht
  unfold recvRes
  rw [bigSep_sep', bigSep_sep']
  isplitl [Hcr]; · iexact Hcr
  isplitl [Has] <;> iassumption

/-- What the run's data are: the staged inputs kept, the output window's contents computed. -/
def dats (_ : Fin 1) (c : Dev nD) : Dat τ (Elt F) Unit ℕ UU ℕ cfg0 c where
  A w := m ((cfg0.win w).arr.view.loc (c : Thread nD τ))
  after w _ := match w with
    | ⟨0, _⟩ => xst m c
    | ⟨1, _⟩ => qst m c
    | ⟨2, _⟩ => kst m c
    | ⟨3, _⟩ => vst m c
    | ⟨4, _⟩ => ost m c
    | ⟨5, _⟩ => tst m c
    | ⟨6, _⟩ => wst m c
    | ⟨7, _⟩ => fst m c
    | ⟨8, _⟩ => gst m c
    | ⟨9, _⟩ => finOut m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whole c b f) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ whole c b f)

/-- A fetched window's buffer at its point. -/
theorem stg_elim (c : Dev nD) (b : Ref sig .tc) (β : Type) (X : β → b.ty.Contents (Elt F)) (Y : b.ty.Contents (Elt F)) (h : ∀ d, X d = Y) :
    (iprop(∃ d, stg c b (X d)) : sProp 𝕄) ⊢ whole c b Y := by
  iintro ⟨%d, %f, %hf, H⟩
  rw [← (hf.trans (h d))]; iexact H
theorem stg_intro (c : Dev nD) (b : Ref sig .tc) (X : b.ty.Contents (Elt F)) : whole c b X ⊢ (stg c b X : sProp 𝕄) := by
  iintro H
  iexists X
  isplitr; · (ipureintro; rfl)
  iexact H

set_option maxRecDepth 8192 in
def bodyPre (c : Dev nD) : sProp 𝕄 :=
  iprop(Φ₀ m c ∗ (dats m 0 c).owesAt () t₀.castSucc
    ∗ (∃ d, stg c cc0_stg0_0 ((dats m 0 c).before (0 : Fin 10) t₀ d)) ∗ (∃ d, stg c cc0_stg1_0 ((dats m 0 c).before (1 : Fin 10) t₀ d))
    ∗ (∃ d, stg c cc0_stg2_0 ((dats m 0 c).before (2 : Fin 10) t₀ d)) ∗ (∃ d, stg c cc0_stg3_0 ((dats m 0 c).before (3 : Fin 10) t₀ d))
    ∗ (∃ d, stg c cc0_stg4_0 ((dats m 0 c).before (4 : Fin 10) t₀ d)) ∗ (∃ d, stg c cc0_stg5_0 ((dats m 0 c).before (5 : Fin 10) t₀ d))
    ∗ (∃ d, stg c cc0_stg6_0 ((dats m 0 c).before (6 : Fin 10) t₀ d)) ∗ (∃ d, stg c cc0_stg7_0 ((dats m 0 c).before (7 : Fin 10) t₀ d))
    ∗ (∃ d, stg c cc0_stg8_0 ((dats m 0 c).before (8 : Fin 10) t₀ d)) ∗ (∃ d, stg c cc0_stg9_0 ((dats m 0 c).before (9 : Fin 10) t₀ d)))

def bodyPost (c : Dev nD) : sProp 𝕄 :=
  iprop(Φ₁ c ∗ (dats m 0 c).owesAt () t₀.succ
    ∗ stg c cc0_stg0_0 (xst m c) ∗ stg c cc0_stg1_0 (qst m c) ∗ stg c cc0_stg2_0 (kst m c) ∗ stg c cc0_stg3_0 (vst m c)
    ∗ stg c cc0_stg4_0 (ost m c) ∗ stg c cc0_stg5_0 (tst m c) ∗ stg c cc0_stg6_0 (wst m c) ∗ stg c cc0_stg7_0 (fst m c)
    ∗ stg c cc0_stg8_0 (gst m c) ∗ stg c cc0_stg9_0 (finOut m c))

theorem before_at (c : Dev nD) (w : Fin 10) (hf : (cfg0.win w).fetch t₀ = true) (d) :
    (dats m 0 c).before w t₀ d = (dats m 0 c).fetched w t₀ d := by unfold Dat.before; rw [if_pos hf]

set_option maxRecDepth 8192 in
theorem sound_body (c : Dev nD) : bodyPre m c ⊢ WP c bodyP (fun _ => bodyPost m c) := by
  unfold bodyPre Φ₀
  iintro ⟨⟨Hs, ⟨%fa, Ha⟩, ⟨%fc, Hc⟩⟩, Ho, H0, H1, H2, H3, H4, H5, H6, H7, H8, ⟨%d9, %f9, -, H9⟩⟩
  ihave Hr := (run_intro m c) $$ Hs
  icases Hr with ⟨%K, Hr⟩
  unfold Dat.owesAt Pipeline.owesWithin
  icases Ho with ⟨%W, -, HO⟩
  rw [show (dats m 0 c).owed t₀.castSucc = O₀ c from rfl]
  iapply (wp_body m K c fa f9 fc (fun _ => bodyPost m c)) $$ [Hr Ha Hc HO H0 H1 H2 H3 H4 H5 H6 H7 H8 H9]
  · isplitl [Hr]; · iexact Hr
    isplitl [HO]; · unfold owesA; iexists W; iexact HO
    isplitl [H0 H1 H2 H3 H4 H5 H6 H7 H8]
    · unfold ins
      isplitl [H0]; · iapply (stg_elim c cc0_stg0_0 _ _ (xst m c) fun d => before_at m c 0 rfl d); iexact H0
      isplitl [H1]; · iapply (stg_elim c cc0_stg1_0 _ _ (qst m c) fun d => before_at m c 1 rfl d); iexact H1
      isplitl [H2]; · iapply (stg_elim c cc0_stg2_0 _ _ (kst m c) fun d => before_at m c 2 rfl d); iexact H2
      isplitl [H3]; · iapply (stg_elim c cc0_stg3_0 _ _ (vst m c) fun d => before_at m c 3 rfl d); iexact H3
      isplitl [H4]; · iapply (stg_elim c cc0_stg4_0 _ _ (ost m c) fun d => before_at m c 4 rfl d); iexact H4
      isplitl [H5]; · iapply (stg_elim c cc0_stg5_0 _ _ (tst m c) fun d => before_at m c 5 rfl d); iexact H5
      isplitl [H6]; · iapply (stg_elim c cc0_stg6_0 _ _ (wst m c) fun d => before_at m c 6 rfl d); iexact H6
      isplitl [H7]; · iapply (stg_elim c cc0_stg7_0 _ _ (fst m c) fun d => before_at m c 7 rfl d); iexact H7
      iapply (stg_elim c cc0_stg8_0 _ _ (gst m c) fun d => before_at m c 8 rfl d); iexact H8
    isplitl [Ha]; · iexact Ha
    isplitl [Hc]; · iexact Hc
    iexact H9
  unfold ins bodyPost Φ₁ Dat.owesAt Pipeline.owesWithin owesA
  rw [show (dats m 0 c).owed t₀.succ = 0 from rfl]
  iintro ⟨⟨%W', HO⟩, ⟨H0, H1, H2, H3, H4, H5, H6, H7, H8⟩, Ha, Hc, H9, Hzb, Hzs⟩
  isplitl [Ha Hc Hzb Hzs]
  · isplitl [Ha]; · iexact Ha
    isplitl [Hc]; · iexact Hc
    isplitl [Hzb] <;> iassumption
  isplitl [HO]
  · iexists W'
    isplitr; · ipureintro; exact fun _ _ => Or.inl trivial
    iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  isplitl [H5]; · iapply (stg_intro c cc0_stg5_0); iexact H5
  isplitl [H6]; · iapply (stg_intro c cc0_stg6_0); iexact H6
  isplitl [H7]; · iapply (stg_intro c cc0_stg7_0); iexact H7
  isplitl [H8]; · iapply (stg_intro c cc0_stg8_0); iexact H8
  iapply (stg_intro c cc0_stg9_0); iexact H9

set_option maxRecDepth 8192 in
theorem body_obligation (c : Dev nD) : BodyObligation (dats m 0 c) (defs₀ (F := F)) 𝒱₀ () Set.univ := fun t => by
  rw [fin_N0 t]
  rw [bigSep_W0, bigSep_W0]
  simp only [owns_whole_eq]
  show bodyPre m c ⊢ WP c (cc0_body (F := F) xM (Memref.isWhole_whole _) qM (Memref.isWhole_whole _) kM (Memref.isWhole_whole _) vM (Memref.isWhole_whole _)
      woM (Memref.isWhole_whole _) teM (Memref.isWhole_whole _) wmM (Memref.isWhole_whole _) f1M (Memref.isWhole_whole _)
      f2M (Memref.isWhole_whole _) outM (Memref.isWhole_whole _) accM (Memref.isWhole_whole _) comM (Memref.isWhole_whole _)
      cc0_scratch2 cc0_scratch3) (fun _ => bodyPost m c)
  rw [body_eq]
  exact sound_body m c

/-! ## The cells, allocated and dealt -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × CK → GSem nD τ sig) := by
  rintro ⟨c, k⟩ ⟨c', k'⟩ h
  obtain rfl : c = c' := congrArg (fun g : GSem nD τ sig => g.1.1) h
  obtain rfl : k = k' := csem_inj (congrArg Prod.snd h)
  rfl
def allCells : Finset (GSem nD τ sig) := Finset.univ.map ⟨kcell, kcell_injective⟩

/-- The duties of a device's own cells: a barrier's three, a transfer cell's one. -/
def ownDuty : Fin 3 ⊕ OK → CK × Fin 3
  | .inl μ => (.inl (), μ)
  | .inr k => (.inr k, 0)
theorem ownDuty_injective : Function.Injective ownDuty := by
  rintro (μ | k) (μ' | k') h
  · exact congrArg Sum.inl (congrArg Prod.snd h)
  · exact absurd (congrArg Prod.fst h) (by simp [ownDuty])
  · exact absurd (congrArg Prod.fst h) (by simp [ownDuty])
  · exact congrArg Sum.inr (Sum.inr.inj (congrArg Prod.fst h))
abbrev tokOf (cj : Dev nD × (Fin 3 ⊕ OK)) : GSem nD τ sig × ℕ × Fin 3 := (kcell (cj.1, (ownDuty cj.2).1), 0, (ownDuty cj.2).2)
theorem tokOf_injective : Function.Injective tokOf := by
  rintro ⟨c, j⟩ ⟨c', j'⟩ h
  have h1 := kcell_injective (congrArg Prod.fst h)
  have h2 : (ownDuty j).2 = (ownDuty j').2 := congrArg (fun x : GSem nD τ sig × ℕ × Fin 3 => x.2.2) h
  obtain rfl : c = c' := congrArg Prod.fst h1
  obtain rfl : j = j' := ownDuty_injective (Prod.ext (congrArg Prod.snd h1) h2)
  rfl
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of a device's own cells. -/
def ownToks (c : Dev nD) : sProp 𝕄 :=
  bigSep Finset.univ fun j : Fin 3 ⊕ OK => dutyTok ER (kcell (c, (ownDuty j).1)) 0 (ownDuty j).2

/-- What the launch element deals a device. -/
def G (c : Dev nD) : sProp 𝕄 :=
  iprop((bigSep Finset.univ fun k : CK => roundState ER (Rd m) (kcell (c, k)) 0)
    ∗ (bigSep Finset.univ fun k : CK => atPos ER (kcell (c, k)) 0 ∅ 0) ∗ (bigSep Finset.univ fun k : CK => reached ER (kcell (c, k)) 0) ∗ ownToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

theorem bigSep_unit (Φ : Unit → sProp 𝕄) : bigSep Finset.univ Φ = Φ () := bigSep_univ_eq_bigSepL [()] (by decide) (by decide) Φ

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, BI.bigSep_univ_sum]
  iintro ⟨HS, HB⟩
  iapply (show iprop(semVal (barC c) 0 ∗ Pipeline.ownSems0 (Ix := Unit) (Name := ℕ) (U := UU) (Lvl := ℕ) (Val := Elt F) (τ := τ) osem c)
      ⊢ (iprop((bigSep Finset.univ fun u : Unit => semVal (kcell (c, .inl u)) 0) ∗ bigSep Finset.univ fun k : OK => semVal (kcell (c, .inr k)) 0) : sProp 𝕄) from
    Entails.of_eq (congrArg (fun x : sProp 𝕄 => iprop(x ∗ _)) (bigSep_unit fun u => semVal (kcell (c, .inl u)) 0).symm))
  isplitl [HB] <;> iassumption

/-- What a device's allocation gives. -/
def alloc (c : Dev nD) : sProp 𝕄 :=
  iprop((bigSep Finset.univ fun k : CK => iprop(∃ κ : ℕ, cellInv ER (Rd m) κ (kcell (c, k))))
    ∗ (bigSep Finset.univ fun k : CK => atPos ER (kcell (c, k)) 0 ∅ 0) ∗ (bigSep Finset.univ fun k : CK => reached ER (kcell (c, k)) 0) ∗ ownToks c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> alloc m c := by
  unfold G alloc
  iintro ⟨Hos, Hus, Hst, Hat⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv] <;> iassumption

/-- A family over devices and a second index, dealt to other devices along a permutation for each value of the index. -/
theorem deal {J : Type} [Fintype J] [DecidableEq J] (e : J → Dev nD → Dev nD) (he : ∀ j c, e j (e j c) = c) (Φ : Dev nD → J → sProp 𝕄) :
    (bigSep Finset.univ fun c : Dev nD => bigSep Finset.univ fun j : J => Φ c j)
      = bigSep Finset.univ fun c : Dev nD => bigSep Finset.univ fun j : J => Φ (e j c) j := by
  rw [← bigSep_univ_prod fun cj : Dev nD × J => Φ cj.1 cj.2, ← bigSep_univ_prod fun cj : Dev nD × J => Φ (e cj.2 cj.1) cj.2]
  exact BI.bigSep_univ_equiv (⟨fun cj => (e cj.2 cj.1, cj.2), fun cj => (e cj.2 cj.1, cj.2), fun cj => Prod.ext (he _ _) rfl,
    fun cj => Prod.ext (he _ _) rfl⟩ : Dev nD × J ≃ Dev nD × J) fun cj : Dev nD × J => Φ cj.1 cj.2

theorem toks_around : (bigSep Finset.univ fun c : Dev nD => (ownToks c : sProp 𝕄)) ⊢ bigSep Finset.univ fun c : Dev nD => payToks c := by
  have h1 : ∀ c : Dev nD, (ownToks c : sProp 𝕄) = iprop((bigSep Finset.univ fun μ : Fin 3 => dutyTok ER (barC c) 0 μ)
      ∗ (bigSep Finset.univ fun s : Fin 18 => dutyTok ER (sndC c s) 0 0) ∗ bigSep Finset.univ fun s : Fin 18 => dutyTok ER (rcvC c s) 0 0) := fun c => by
    unfold ownToks; rw [BI.bigSep_univ_sum, BI.bigSep_univ_sum]; rfl
  have h2 : ∀ c : Dev nD, (payToks c : sProp 𝕄) = iprop((bigSep Finset.univ fun μ : Fin 3 => dutyTok ER (barC (peer μ c)) 0 μ)
      ∗ (bigSep Finset.univ fun s : Fin 18 => dutyTok ER (sndC c s) 0 0) ∗ bigSep Finset.univ fun s : Fin 18 => dutyTok ER (rcvC (pr s c) s) 0 0) := fun c => by
    unfold payToks toks; rw [bigSep_sep']
  rw [bigSep_congr (s := Finset.univ) fun c _ => h1 c, bigSep_congr (s := Finset.univ) fun c _ => h2 c, bigSep_sep', bigSep_sep', bigSep_sep', bigSep_sep',
    deal peer peer_peer fun c μ => dutyTok ER (barC c) 0 μ, deal pr pr_pr fun c s => dutyTok ER (rcvC c s) 0 0]

theorem regroup : (bigSep Finset.univ fun c : Dev nD => alloc m c) ⊢ bigSep Finset.univ (G' m) := by
  unfold alloc
  rw [bigSep_sep', bigSep_sep', bigSep_sep', ← bigSep_univ_prod (fun ck : Dev nD × CK => iprop(∃ κ : ℕ, cellInv ER (Rd m) κ (kcell ck))),
    ← bigSep_univ_prod (fun ck : Dev nD × CK => (reached ER (kcell ck) 0 : sProp 𝕄))]
  iintro ⟨HI, Hat, #HR, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  unfold G'
  iapply (bigSep_with_persistent (R := iprop((bigSep Finset.univ fun ck : Dev nD × CK => cellInv ER (Rd m) (K ck) (kcell ck))
      ∗ bigSep Finset.univ fun ck : Dev nD × CK => reached ER (kcell ck) 0))
    (Φ := fun c : Dev nD => iprop((bigSep Finset.univ fun k : CK => atPos ER (kcell (c, k)) 0 ∅ 0) ∗ payToks c)) fun c _ => by
      iintro ⟨HR, Hl⟩
      isplitl [HR]; · iexists K; iexact HR
      iexact Hl)
  isplitr
  · isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_iff {a b : Dev nD × CK} : kcell a = kcell b ↔ a = b := kcell_injective.eq_iff

theorem peer_eq_iff (μ : Fin 3) (d c : Dev nD) : peer μ d = c ↔ d = peer μ c :=
  ⟨fun h => by rw [← h, peer_peer], fun h => by rw [h, peer_peer]⟩

theorem bar_unit (d c : Dev nD) (μ : Fin 3) : (tallyAt (barC (peer μ d)) () 1 : CellTallies nD τ sig Unit) (barC c) () = if d = peer μ c then 1 else 0 := by
  rw [tallyAt_apply]
  refine if_congr ?_ rfl rfl
  rw [← peer_eq_iff]
  exact ⟨fun h => (congrArg Prod.fst (kcell_injective (a₁ := (c, .inl ())) (a₂ := (peer μ d, .inl ())) h.1)).symm, fun h => ⟨by rw [h], rfl⟩⟩

theorem owed_bar (d c : Dev nD) :
    O₀ d (barC c) () = (if d = peer 2 c then 1 else 0) + (if d = peer 1 c then 1 else 0) + (if d = peer 0 c then 1 else 0) := by
  have h0 : Osum d 0 (barC c) () = 0 := Nat.eq_zero_of_not_pos fun h => by
    obtain ⟨s, _, hs⟩ := Osum_pos h
    have := kcell_injective (a₁ := (c, .inl ())) (a₂ := (pr s d, .inr (.inr s))) hs
    exact absurd (congrArg Prod.snd this) (by simp)
  unfold O₀
  simp only [Pi.add_apply, Finsupp.add_apply, bar_unit, h0, Nat.zero_add]

theorem owed_rcv (d c : Dev nD) (s : Fin 18) : O₀ d (rcvC c s) () = if d = pr s c then NN s else 0 := by
  have hb : ∀ μ, (tallyAt (barC (peer μ d)) () 1 : CellTallies nD τ sig Unit) (rcvC c s) () = 0 := fun μ => by
    rw [tallyAt_apply]
    refine if_neg fun h => ?_
    have := kcell_injective (a₁ := (c, .inr (.inr s))) (a₂ := (peer μ d, .inl ())) h.1
    exact absurd (congrArg Prod.snd this) (by simp)
  have hs : Osum d 0 (rcvC c s) () = if d = pr s c then NN s else 0 := by
    unfold Osum
    rw [Finset.sum_apply, Finsupp.finset_sum_apply, Finset.sum_eq_single s]
    · rw [tallyAt_apply]
      refine if_congr ?_ rfl rfl
      rw [← peer_eq_iff]
      exact ⟨fun h => (congrArg Prod.fst (kcell_injective (a₁ := (c, .inr (.inr s))) (a₂ := (pr s d, .inr (.inr s))) h.1)).symm, fun h => ⟨congrArg (fun x => rcvC x s) h.symm, rfl⟩⟩
    · intro t _ ht
      rw [tallyAt_apply]
      refine if_neg fun h => ht ?_
      have := kcell_injective (a₁ := (c, .inr (.inr s))) (a₂ := (pr t d, .inr (.inr t))) h.1
      exact (Sum.inr.inj (Sum.inr.inj (congrArg Prod.snd this))).symm
    · exact fun h => absurd (Finset.mem_filter.mpr ⟨Finset.mem_univ s, Nat.zero_le _⟩) h
  unfold O₀
  simp only [Pi.add_apply, Finsupp.add_apply, hb, hs, Nat.add_zero]

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]

theorem launch_rcv (c : Dev nD) (s : Fin 18) :
    tallyOn (rcvC c s) (launchCredit (Pipeline.owing O₀) 0 (rcvC c s)) = (tallyAt (rcvC c s) () (NN s) : CellTallies nD τ sig Unit) := by
  unfold tallyAt; refine congrArg _ (Finsupp.ext fun u => ?_); cases u
  rw [Pipeline.launchCredit_owing, Finsupp.single_eq_same, Finset.sum_congr rfl fun d _ => owed_rcv d c s, Finset.sum_ite_eq' Finset.univ (pr s c) fun _ => NN s,
    if_pos (Finset.mem_univ _)]

/-- The semaphores others signal on a device. -/
def inSem : Unit ⊕ Fin 18 → CK
  | .inl _ => .inl ()
  | .inr s => .inr (.inr s)
theorem inSem_injective : Function.Injective fun k => csem (inSem k) := csem_inj.comp (by decide)

theorem creds (c : Dev nD) : (Pipeline.launchCred O₀ c : sProp 𝕄) ⊢ credsAt c := by
  unfold Pipeline.launchCred credsAt
  refine BIBase.Entails.trans (BI.bigSep_subset (Finset.subset_univ (Finset.univ.map ⟨fun k => csem (inSem k), inSem_injective⟩))) (Entails.of_eq ?_)
  rw [bigSep_map, BI.bigSep_univ_sum]
  refine congrArg₂ (fun x y : sProp 𝕄 => iprop(x ∗ y)) ?_ ?_
  · refine (bigSep_unit _).trans ?_
    exact congrArg (fun x => (cred x : sProp 𝕄)) (launch_bar c)
  · exact bigSep_congr fun s _ => congrArg (fun x => (cred x : sProp 𝕄)) (launch_rcv c s)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Ha, Hc⟩
  isplitl [Hs]; · iexact Hs
  isplitl [Ha] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁
  iintro ⟨Ha, Hc, Hzb, Hzs⟩
  isplitl [Hzb]; · iexact Hzb
  isplitl [Hzs]
  · iapply (show (bigSep Finset.univ fun s : Fin 18 => iprop(semVal (sndC c s) 0 ∗ semVal (rcvC c s) 0)) ⊢ (Pipeline.ownSems0 osem c : sProp 𝕄) from by
      unfold Pipeline.ownSems0
      rw [bigSep_sep', BI.bigSep_univ_sum]; exact BI.Entails.refl _)
    iexact Hzs
  isplitl [Ha] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by
      unfold dec
      refine dif_neg ?_
      revert w s
      decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the mesh of eight devices, for any float values, from any memory with zero counters: every weakly fair execution of
    the program ends, each array then holding what the run's data say and every semaphore counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Dit
end
-- ==== Proof.Frames.lean ====
/-
# What a run of the kernel leaves behind

The arguments as they were, every semaphore at zero, and in the result array of each device the value `finOut`.
-/
module

public import proofs.«01_k».proof.Proof.Launch
public import proofs.«01_k».proof.Defs
public import proofs.«01_k».proof.Proof.Gen.Kernel
public import Idealize.ShloMosaic.Lib.Pipeline.ValueKit

@[expose] public section

noncomputable section

namespace Cert.Dit

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- An input's array after the run is what it was. -/
theorem final_in (c : Dev nD) (w : Fin cfg0.W) (h : (cfg0.win w).isOut = false) :
    finalA m c w = m ((cfg0.win w).arr.view.loc (c : Thread nD τ)) :=
  (dats m 0 c).arrAt_in w h _

theorem whole_out : (cfg0.win 9).WholeAt t₀ := by decide +kernel

/-- The result array after the run holds `finOut`. -/
theorem final_out (c : Dev nD) : finalA m c 9 = finOut m c :=
  (dats m 0 c).arrAt_eq_of_after_last 9 t₀ whole_out (finOut m c) fun j => by
    blk_simp
    rfl

/-- The run with every array named. -/
theorem run_named : θ_run defs (onTc (τ := τ) (main (F := F))) ⟨m, fun _ => 0, ρ⟩ (fun r => (∀ c : Dev nD,
    r.2.mem ((c.tc : Thread nD τ).loc main_v1) = finOut m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  (θ_run defs _ _).mono (fun r h => ⟨fun c => ⟨(h.1 c 9).trans (final_out m c),
    (h.1 c 0).trans (final_in m c 0 rfl), (h.1 c 1).trans (final_in m c 1 rfl), (h.1 c 2).trans (final_in m c 2 rfl),
    (h.1 c 3).trans (final_in m c 3 rfl), (h.1 c 4).trans (final_in m c 4 rfl), (h.1 c 5).trans (final_in m c 5 rfl),
    (h.1 c 6).trans (final_in m c 6 rfl), (h.1 c 7).trans (final_in m c 7 rfl), (h.1 c 8).trans (final_in m c 8 rfl)⟩, h.2⟩)
    (run_main m ρ)

/-- The run with the arguments and the semaphores alone. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
    ∧ r.2.sem = fun _ => 0) :=
  (θ_run defs _ _).mono (fun _ h => ⟨fun c => (h.1 c).2, h.2⟩) (run_named m ρ)

theorem frame_kernelIdeal : Cert.quiescent_KernelIdeal := fun m ρ _ => run_frame (F := Ideal) m ρ

section Same
attribute [local instance] Cert.Kernel.Gen.facts
set_option maxRecDepth 100000

/-- The two programs have the same body, -/
theorem body_same : @Cert.Kernel.cc0_body Bits _ _ = @Cert.KernelIdeal.cc0_body Bits _ _ := rfl

/-- so the same table of kernels, -/
theorem kernels_same : @Cert.Kernel.defs₀ Bits _ _ = @Cert.KernelIdeal.defs₀ Bits _ _ := by
  refine congrArg Defs.onTc ?_
  funext l a
  match l with
  | ⟨0, _⟩ =>
    obtain ⟨t, s⟩ := a
    dsimp only
    rw [body_same]
  | ⟨n + 1, h⟩ => exact absurd h (Nat.not_lt.2 (Nat.le_add_left _ _))

/-- and the same table of bodies. -/
theorem table_same : @Cert.Kernel.defs Bits _ _ = @Cert.KernelIdeal.defs Bits _ _ :=
  congrArg (Pipeline.defs Cert.KernelIdeal.pcfgs) kernels_same

theorem frame_kernel : Cert.quiescent_Kernel (hKernel := Cert.Kernel.Gen.facts) := fun m ρ _ => by
  have h := run_frame (F := Bits) m ρ
  rw [← table_same] at h
  exact h

end Same

end Cert.Dit
end
-- ==== Proof.Math.lean ====
/-
# The block's arithmetic on extended reals

The layer norm, the softmax quotient and the gated unit of the block as functions of rows of extended reals, with the
three facts that make the kernel's spelling and the reference's the same: a normalised row is always finite and is the
same whether one multiplies by a reciprocal square root or divides by a square root; the weights of finite scores may be
normalised before or after the weighted sum; and a sum over all columns is the sum over the devices of the sums over
their columns.
-/
module

public import Idealize.ShloMosaic.PureOps.Ideal
public import Idealize.ShloMosaic.PureOps.Ideal.Laws
public import Idealize.ShloMosaic.Lib.IdealHost

@[expose] public section

noncomputable section

namespace Cert.Dit

open Idealize.ShloMosaic

/-! ## Finite values -/

/-- An extended real that is a real number. -/
def Fin' (x : EReal) : Prop := ∃ r : ℝ, x = (r : EReal)

theorem Fin'.add {x y : EReal} : Fin' x → Fin' y → Fin' (x + y)
  | ⟨a, ha⟩, ⟨b, hb⟩ => ⟨a + b, by rw [ha, hb, EReal.coe_add]⟩
theorem Fin'.sub {x y : EReal} : Fin' x → Fin' y → Fin' (x - y)
  | ⟨a, ha⟩, ⟨b, hb⟩ => ⟨a - b, by rw [ha, hb, EReal.coe_sub]⟩
theorem Fin'.mul {x y : EReal} : Fin' x → Fin' y → Fin' (x * y)
  | ⟨a, ha⟩, ⟨b, hb⟩ => ⟨a * b, by rw [ha, hb, EReal.coe_mul]⟩
theorem Fin'.zero : Fin' 0 := ⟨0, rfl⟩
theorem Fin'.one : Fin' 1 := ⟨1, rfl⟩
theorem Fin'.sum {ι : Type} (s : Finset ι) (f : ι → EReal) (h : ∀ i ∈ s, Fin' (f i)) : Fin' (∑ i ∈ s, f i) := by
  classical
  induction s using Finset.induction_on with
  | empty => exact Fin'.zero
  | insert a s ha ih =>
    rw [Finset.sum_insert ha]
    exact (h a (Finset.mem_insert_self a s)).add (ih fun i hi => h i (Finset.mem_insert_of_mem hi))
theorem Fin'.of_ne {x : EReal} (h₁ : x ≠ ⊤) (h₂ : x ≠ ⊥) : Fin' x := ⟨x.toReal, (EReal.coe_toReal h₁ h₂).symm⟩

/-! ## The constants -/

/-- The row length 512. -/
abbrev c512 : EReal := Ideal.ofBits .f32 0x44000000#32
/-- The layer norm's small addend. -/
abbrev cEps : EReal := Ideal.ofBits .f32 0x3727C5AC#32
/-- The score scale, one eighth. -/
abbrev cEighth : EReal := Ideal.ofBits .f32 0x3E000000#32

theorem c512_eq : c512 = ((512 : ℝ) : EReal) := by
  simp [Ideal.ofBits, Ideal.ieee, -EReal.coe_mul]; norm_num
theorem cEighth_fin : Fin' cEighth := ⟨1 / 8, by
  simp [Ideal.ofBits, Ideal.ieee, -EReal.coe_mul]; norm_num⟩
theorem cEps_pos : ∃ r : ℝ, 0 < r ∧ cEps = (r : EReal) :=
  ⟨10995116 * 2 ^ (-40 : ℤ), by positivity, by simp [Ideal.ofBits, Ideal.ieee, -EReal.coe_mul]⟩
theorem neg_inf_eq : Ideal.ofBits .f32 0xFF800000#32 = (⊥ : EReal) := by
  simp [Ideal.ofBits, Ideal.ieee]

/-! ## The layer norm of a row -/

/-- The mean of a row of 512. -/
def mean (r : Fin 512 → EReal) : EReal := Ideal.div (∑ k, r k) c512
/-- A row's entry less the row's mean. -/
def cen (r : Fin 512 → EReal) (k : Fin 512) : EReal := r k - mean r
/-- The mean of a row's squared distances from its mean. -/
def var (r : Fin 512 → EReal) : EReal := Ideal.div (∑ k, cen r k * cen r k) c512
/-- The normalised row. -/
def ln (r : Fin 512 → EReal) (k : Fin 512) : EReal := cen r k * Ideal.rsqrt (var r + cEps)

theorem Fin'.of_add {x y : EReal} (h : Fin' (x + y)) : Fin' x ∧ Fin' y := by
  obtain ⟨r, hr⟩ := h
  induction x <;> induction y <;>
    first
    | exact ⟨⟨_, rfl⟩, ⟨_, rfl⟩⟩
    | (simp at hr)
theorem Fin'.of_sub {x y : EReal} (h : Fin' (x - y)) : Fin' x ∧ Fin' y := by
  obtain ⟨r, hr⟩ := h
  induction x <;> induction y <;>
    first
    | exact ⟨⟨_, rfl⟩, ⟨_, rfl⟩⟩
    | (simp at hr)
theorem Fin'.of_sum {ι : Type} (s : Finset ι) (f : ι → EReal) (h : Fin' (∑ i ∈ s, f i)) : ∀ i ∈ s, Fin' (f i) := by
  classical
  induction s using Finset.induction_on with
  | empty => intro i hi; simp at hi
  | insert a s ha ih =>
    rw [Finset.sum_insert ha] at h
    intro i hi
    rcases Finset.mem_insert.mp hi with rfl | hi
    · exact h.of_add.1
    · exact ih h.of_add.2 i hi
theorem sq_top {x : EReal} (h : ¬ Fin' x) : x * x = ⊤ := by
  induction x
  · simp
  · exact absurd ⟨_, rfl⟩ h
  · simp
theorem sq_nonneg' (x : EReal) : 0 ≤ x * x := by
  induction x
  · simp
  · rw [← EReal.coe_mul]; exact_mod_cast mul_self_nonneg _
  · simp

theorem div_c512 (x : EReal) : Ideal.div x c512 = x * ((512⁻¹ : ℝ) : EReal) := by
  rw [Ideal.div, c512_eq, if_neg (by norm_num), EReal.coe_inv]

theorem var_nonneg (r : Fin 512 → EReal) : 0 ≤ var r := by
  rw [var, div_c512]
  exact mul_nonneg (Finset.sum_nonneg fun k _ => sq_nonneg' _) (by norm_num)

/-- A row's variance plus the small addend is a positive real number or infinite. -/
theorem var_eps (r : Fin 512 → EReal) : var r + cEps = ⊤ ∨ ∃ s : ℝ, 0 < s ∧ var r + cEps = (s : EReal) := by
  obtain ⟨e, he, hc⟩ := cEps_pos
  have h := var_nonneg r
  rw [hc]
  generalize var r = v at h
  induction v
  · simp at h
  · rename_i v
    have h0 : 0 ≤ v := by exact_mod_cast h
    exact Or.inr ⟨v + e, by linarith, by rw [EReal.coe_add]⟩
  · exact Or.inl (by simp)

/-- Multiplying by the reciprocal square root is dividing by the square root, for such a number. -/
theorem mul_rsqrt {v : EReal} (c : EReal) (h : v = ⊤ ∨ ∃ s : ℝ, 0 < s ∧ v = (s : EReal)) :
    c * Ideal.rsqrt v = Ideal.div c (Ideal.sqrt v) := by
  rcases h with rfl | ⟨s, hs, rfl⟩
  · simp [Ideal.rsqrt_top, Ideal.sqrt_top, Ideal.div]
  · have hq : Real.sqrt s ≠ 0 := (Real.sqrt_pos.mpr hs).ne'
    simp only [Ideal.rsqrt_coe, Ideal.sqrt_coe, if_neg (not_lt.mpr hs.le), if_neg hs.ne']
    rw [Ideal.div, if_neg (by exact_mod_cast hq), EReal.coe_inv]

theorem ln_eq_div (r : Fin 512 → EReal) (k : Fin 512) : ln r k = Ideal.div (cen r k) (Ideal.sqrt (var r + cEps)) :=
  mul_rsqrt _ (var_eps r)

/-- A normalised row is finite: a row with an infinite entry is normalised to zero. -/
theorem ln_fin (r : Fin 512 → EReal) (k : Fin 512) : Fin' (ln r k) := by
  by_cases hm : Fin' (mean r)
  · have hs : Fin' (∑ k, r k) := by
      obtain ⟨a, ha⟩ := hm
      rw [mean, div_c512] at ha
      generalize ∑ k, r k = S at ha
      induction S
      · rw [EReal.bot_mul_coe_of_pos (by norm_num)] at ha; simp at ha
      · exact ⟨_, rfl⟩
      · rw [EReal.top_mul_coe_of_pos (by norm_num)] at ha; simp at ha
    have hr := Fin'.of_sum _ _ hs
    have hc : ∀ k, Fin' (cen r k) := fun k => (hr k (Finset.mem_univ k)).sub hm
    have hv : Fin' (var r) := by
      rw [var, div_c512]; exact (Fin'.sum _ _ fun k _ => (hc k).mul (hc k)).mul ⟨_, rfl⟩
    refine (hc k).mul ?_
    rcases var_eps r with h | ⟨s, hs, h⟩
    · rw [h]; exact ⟨0, by simp [Ideal.rsqrt_top]⟩
    · rw [h]; simp only [Ideal.rsqrt_coe, if_neg (not_lt.mpr hs.le), if_neg hs.ne']; exact ⟨_, rfl⟩
  · have hc : ∀ k, cen r k * cen r k = ⊤ := fun k => sq_top fun h => hm h.of_sub.2
    have hv : var r = ⊤ := by
      rw [var, div_c512]
      have h0 := Finset.single_le_sum (f := fun k => cen r k * cen r k) (fun k _ => sq_nonneg' _) (Finset.mem_univ 0)
      rw [hc 0] at h0
      rw [top_le_iff.mp h0]
      exact EReal.top_mul_coe_of_pos (by norm_num)
    obtain ⟨e, _, he⟩ := cEps_pos
    rw [ln, hv, he]
    exact ⟨0, by simp [Ideal.rsqrt_top]⟩

/-! ## The softmax quotient of a row -/

/-- The greatest entry of a row of scores. -/
def top (s : Fin 256 → EReal) : EReal := Finset.univ.fold max ⊥ s
/-- The exponentials of a row of scores less their greatest. -/
def wt (s : Fin 256 → EReal) (j : Fin 256) : EReal := Ideal.exp (s j - top s)
/-- The sum of the normalised weights times the values. -/
def soft (s v : Fin 256 → EReal) : EReal := ∑ j, Ideal.div (wt s j) (∑ j', wt s j') * v j

theorem top_fin (s : Fin 256 → EReal) (h : ∀ j, Fin' (s j)) : Fin' (top s) := by
  refine Fin'.of_ne (fun he => ?_) (fun he => ?_)
  · have h2 : Finset.univ.fold max ⊥ s < ⊤ := by
      rw [Finset.fold_max_lt]
      exact ⟨bot_lt_top, fun j _ => by obtain ⟨r, hr⟩ := h j; rw [hr]; exact EReal.coe_lt_top r⟩
    exact h2.ne he
  · have h2 : ⊥ < Finset.univ.fold max ⊥ s := by
      rw [Finset.lt_fold_max]
      exact Or.inr ⟨0, Finset.mem_univ _, by obtain ⟨r, hr⟩ := h 0; rw [hr]; exact EReal.bot_lt_coe r⟩
    exact h2.ne he.symm

theorem wt_pos (s : Fin 256 → EReal) (h : ∀ j, Fin' (s j)) (j : Fin 256) : ∃ r : ℝ, 0 < r ∧ wt s j = (r : EReal) := by
  obtain ⟨d, hd⟩ := (h j).sub (top_fin s h)
  exact ⟨Real.exp d, Real.exp_pos d, by rw [wt, hd]; rfl⟩

theorem sum_pos' {ι : Type} (t : Finset ι) (ht : t.Nonempty) (f : ι → EReal) (h : ∀ i, ∃ r : ℝ, 0 < r ∧ f i = (r : EReal)) :
    ∃ r : ℝ, 0 < r ∧ ∑ i ∈ t, f i = (r : EReal) := by
  classical
  choose g hg he using h
  refine ⟨∑ i ∈ t, g i, Finset.sum_pos (fun i _ => hg i) ht, ?_⟩
  rw [Finset.sum_congr rfl fun i _ => he i]
  exact (map_sum (⟨⟨fun r : ℝ => (r : EReal), rfl⟩, EReal.coe_add⟩ : ℝ →+ EReal) g t).symm

theorem sum_mul_real {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- For finite scores the weights may be normalised after the weighted sum. -/
theorem soft_eq (s v : Fin 256 → EReal) (h : ∀ j, Fin' (s j)) :
    soft s v = Ideal.div (∑ j, v j * wt s j) (∑ j, wt s j) := by
  obtain ⟨l, hl, he⟩ := sum_pos' Finset.univ ⟨0, Finset.mem_univ _⟩ (wt s) (wt_pos s h)
  have hd : ∀ x, Ideal.div x (l : EReal) = x * ((l⁻¹ : ℝ) : EReal) := fun x => by
    rw [Ideal.div, if_neg (by exact_mod_cast hl.ne'), EReal.coe_inv]
  rw [soft, he, hd, sum_mul_real _ _ _ (inv_nonneg.mpr hl.le)]
  refine Finset.sum_congr rfl fun j _ => ?_
  rw [hd, mul_right_comm, mul_comm (wt s j) (v j)]

/-! ## Sums over all the devices -/

/-- Column `c` of the 256 that device `d` holds is column `256 d + c` of all 2048. -/
def col (d : Fin 8) (c : Fin 256) : Fin 2048 := ⟨256 * d.val + c.val, by omega⟩

theorem sum_col (f : Fin 2048 → EReal) : ∑ d, ∑ c, f (col d c) = ∑ c, f c := by
  rw [← (finProdFinEquiv (m := 8) (n := 256)).sum_comp f, Fintype.sum_prod_type]
  refine Finset.sum_congr rfl fun d _ => Finset.sum_congr rfl fun c _ => congrArg f (Fin.ext ?_)
  simp [col, finProdFinEquiv, Nat.add_comm]

/-- `u / (1 + exp (-u))`. -/
def silu (u : EReal) : EReal := Ideal.div u (1 + Ideal.exp (-u))

/-! ## The block -/

/-- A normalised row scaled by `1 + sc` and shifted by `sh`. -/
def modLn (r sc sh : Fin 512 → EReal) (k : Fin 512) : EReal := ln r k * (1 + sc k) + sh k
/-- One column of the rows `h` times a matrix whose column is `w`. -/
def proj (h : Fin 256 → Fin 512 → EReal) (w : Fin 512 → EReal) (i : Fin 256) : EReal := ∑ k, h i k * w k
/-- The scaled scores of a head whose query and key columns are `wq` and `wk`. -/
def score (h : Fin 256 → Fin 512 → EReal) (wq wk : Fin 64 → Fin 512 → EReal) (i j : Fin 256) : EReal :=
  (∑ e, proj h (wq e) i * proj h (wk e) j) * cEighth
/-- One column of that head's output, the one whose value column is `wv`. -/
def attn (h : Fin 256 → Fin 512 → EReal) (wq wk : Fin 64 → Fin 512 → EReal) (wv : Fin 512 → EReal) (i : Fin 256) : EReal :=
  soft (score h wq wk i) (proj h wv)

/-- The arguments of the block, by their coordinates. -/
structure Args where
  /-- the activations -/
  x : Fin 2 → Fin 256 → Fin 512 → EReal
  /-- the query weights -/
  q : Fin 512 → Fin 2048 → EReal
  /-- the key weights -/
  k : Fin 512 → Fin 2048 → EReal
  /-- the value weights -/
  v : Fin 512 → Fin 2048 → EReal
  /-- the output weights -/
  o : Fin 2048 → Fin 512 → EReal
  /-- the conditioning vectors -/
  t : Fin 2 → Fin 128 → EReal
  /-- the modulation weights -/
  w : Fin 128 → Fin 3072 → EReal
  /-- the first feed-forward weights -/
  f : Fin 512 → Fin 2048 → EReal
  /-- the second feed-forward weights -/
  g : Fin 2048 → Fin 512 → EReal

/-- Column `k` of the `a`-th of the six modulation vectors. -/
def six (a : Fin 6) (k : Fin 512) : Fin 3072 := ⟨512 * a.val + k.val, by omega⟩
/-- Column `e` of the head that column `c` belongs to. -/
def headCol (c : Fin 2048) (e : Fin 64) : Fin 2048 := ⟨64 * (c.val / 64) + e.val, by omega⟩

namespace Args

variable (P : Args)

/-- The `a`-th modulation vector at batch entry `b`. -/
def md (b : Fin 2) (a : Fin 6) (k : Fin 512) : EReal := ∑ l, P.t b l * P.w l (six a k)
/-- The rows the attention reads. -/
def h1 (b : Fin 2) (i : Fin 256) : Fin 512 → EReal := modLn (P.x b i) (P.md b 0) (P.md b 1)
/-- Column `c` of the heads' outputs. -/
def att (b : Fin 2) (c : Fin 2048) (i : Fin 256) : EReal :=
  attn (P.h1 b) (fun e k => P.q k (headCol c e)) (fun e k => P.k k (headCol c e)) (fun k => P.v k c) i
/-- The rows after the attention. -/
def x1 (b : Fin 2) (i : Fin 256) (k : Fin 512) : EReal := P.x b i k + P.md b 2 k * ∑ c, P.att b c i * P.o c k
/-- The rows the feed-forward part reads. -/
def h2 (b : Fin 2) (i : Fin 256) : Fin 512 → EReal := modLn (P.x1 b i) (P.md b 3) (P.md b 4)
/-- The hidden unit `c` of the feed-forward part. -/
def hid (b : Fin 2) (c : Fin 2048) (i : Fin 256) : EReal := silu (∑ k, P.h2 b i k * P.f k c)
/-- The block's result. -/
def out (b : Fin 2) (i : Fin 256) (k : Fin 512) : EReal := P.x1 b i k + P.md b 5 k * ∑ c, P.hid b c i * P.g c k

/-- The arguments that the attention's scores are made of, the activations apart, are finite: of the modulation's weights
    those of its first scale and shift. -/
structure Finite : Prop where
  q : ∀ i j, Fin' (P.q i j)
  k : ∀ i j, Fin' (P.k i j)
  t : ∀ i j, Fin' (P.t i j)
  w : ∀ i (j : Fin 3072), j.val < 1024 → Fin' (P.w i j)

variable {P}

theorem Finite.md (h : P.Finite) (b : Fin 2) (a : Fin 6) (ha : a.val < 2) (k : Fin 512) : Fin' (P.md b a k) :=
  Fin'.sum _ _ fun _ _ => (h.t _ _).mul (h.w _ _ (by show 512 * a.val + k.val < 1024; omega))
theorem Finite.h1 (h : P.Finite) (b : Fin 2) (i : Fin 256) (k : Fin 512) : Fin' (P.h1 b i k) :=
  ((ln_fin _ _).mul (Fin'.one.add (h.md _ 0 (by decide) _))).add (h.md _ 1 (by decide) _)
theorem Finite.score (h : P.Finite) (b : Fin 2) (c : Fin 2048) (i j : Fin 256) :
    Fin' (score (P.h1 b) (fun e k => P.q k (headCol c e)) (fun e k => P.k k (headCol c e)) i j) :=
  (Fin'.sum _ _ fun _ _ => (Fin'.sum _ _ fun _ _ => (h.h1 _ _ _).mul (h.q _ _)).mul
    (Fin'.sum _ _ fun _ _ => (h.h1 _ _ _).mul (h.k _ _))).mul cEighth_fin

end Args

end Cert.Dit

end
-- ==== Proof.KerAt.lean ====
/-
# The kernel's values at an index

Every value the kernel stores, read at each of its indices on extended reals, as the arithmetic of Math.lean.
-/
module

public import proofs.«01_k».proof.Proof.Pay
public import proofs.«01_k».proof.Proof.Math
public import Idealize.ShloMosaic.Lib.Pointwise
public import Idealize.ShloMosaic.Lib.KernelVsHost
public import Idealize.ShloMosaic.Lib.MatmulPlain
public import Idealize.ShloMosaic.Lib.ValueLayout
public import Idealize.ShloMosaic.Lib.ValueLayoutCasts

@[expose] public section

noncomputable section

namespace Cert.Dit

open Cert.KernelIdeal Cert.KernelIdeal.Gen
open Idealize.ShloMosaic

/-- A column recast from a vector. -/
theorem col_at (n : ℕ) (v : FVec Ideal ⟨1, ![n]⟩ .f32) (r : Fin n) (u : Fin 1) : shapeCast (M2 n 1) v (cast_col n) (ix2 r u) = v (ix1 r) := by
  rw [ix2_eq_valueIdx, ix1_eq_valueIdx]
  exact ValueIdx.shapeCast_a_a1_apply v (cast_col n) r u

/-- A block's rows recast to a matrix, and back. -/
theorem in_at (n : ℕ) (x : FVec Ideal (M3 n) .f32) (r : Fin n) (k : Fin 512) : shapeCast (M2 n 512) x (cast_in n) (ix2 r k) = x (ix3 0 r k) := by
  rw [ix2_eq_valueIdx, ix3_eq_valueIdx]
  exact ValueIdx.shapeCast_1ab_ab_apply x (cast_in n) r k
theorem out_at (n : ℕ) (x : FVec Ideal (M2 n 512) .f32) (u : Fin 1) (r : Fin n) (k : Fin 512) :
    shapeCast (M3 n) x (cast_out n) (ix3 u r k) = x (ix2 r k) := by
  rw [ix2_eq_valueIdx, ix3_eq_valueIdx]
  exact ValueIdx.shapeCast_ab_1ab_apply x (cast_out n) u r k

/-- A column spread over 512 columns. -/
theorem spread_at (n : ℕ) (v : FVec Ideal (M2 n 1) .f32) (r : Fin n) (k : Fin 512) :
    broadcastTo (M2 n 512) v (bc_col n 512) (ix2 r k) = v (ix2 r 0) := by
  unfold broadcastTo
  refine congrArg v (funext fun a => Fin.ext ?_)
  have hn := r.isLt
  match a with
  | ⟨0, _⟩ =>
    by_cases h : n = 1
    · subst h; obtain rfl := Subsingleton.elim r 0; simp
    · simp [h]
  | ⟨1, _⟩ => simp

theorem gMean_at (n : ℕ) (x : FVec Ideal (M2 n 512) .f32) (r : Fin n) (u : Fin 1) : gMean n x (ix2 r u) = mean fun k => x (ix2 r k) := by
  unfold gMean mean
  rw [divf_apply, col_at]
  pointwise

theorem gCen_at (n : ℕ) (x : FVec Ideal (M2 n 512) .f32) (r : Fin n) (k : Fin 512) : gCen n x (ix2 r k) = cen (fun k => x (ix2 r k)) k := by
  unfold gCen cen
  rw [subf_apply, spread_at, gMean_at]
  pointwise

theorem gLn_at (n : ℕ) (x : FVec Ideal (M2 n 512) .f32) (r : Fin n) (k : Fin 512) : gLn n x (ix2 r k) = ln (fun k => x (ix2 r k)) k := by
  unfold gLn ln var
  rw [mulf_apply, spread_at]
  pointwise [gMean_at, gCen_at]
  rfl

theorem gMod_at (n : ℕ) (b : Fin 2) (sc sh : FVec Ideal S2x512 .f32) (x : FVec Ideal (M2 n 512) .f32) (r : Fin n) (k : Fin 512) :
    gMod n b sc sh (gLn n x) (ix2 r k) = modLn (fun k => x (ix2 r k)) (fun k => sc (ix2 b k)) (fun k => sh (ix2 b k)) k := by
  unfold gMod modLn
  pointwise [gLn_at]

theorem gMul_at (n k m : ℕ) (x : FVec Ideal (M2 n k) .f32) (w : FVec Ideal (M2 k m) .f32) (r : Fin n) (c : Fin m) :
    gMul n k m x w (ix2 r c) = ∑ l, x (ix2 r l) * w (ix2 l c) := by
  simp only [ix2_eq_valueIdx]
  refine (Ideal.matmul_plain_apply none x w (constant (M2 n m) .f32 0x00000000#32) r c).trans ?_
  rw [constant_apply, Ideal.ofBits_def, Ideal.ofBits_zero_f32, zero_add]

theorem gScore_at (o : ℕ) (ho : o + 64 ≤ 256) (q k : FVec Ideal S256x256 .f32) (i j : Fin 256) :
    gScore o ho q k (ix2 i j) = (∑ e : Fin 64, q (ix2 i ⟨o + e.val, by omega⟩) * k (ix2 j ⟨o + e.val, by omega⟩)) * cEighth := by
  unfold gScore
  pointwise [DotDims.transposedRhs]

theorem gExp_at (s : FVec Ideal S256x256 .f32) (i j : Fin 256) : gExp s (ix2 i j) = wt (fun j => s (ix2 i j)) j := by
  unfold gExp wt top
  pointwise [neg_inf_eq]

theorem gNorm_at (p : FVec Ideal S256x256 .f32) (i j : Fin 256) : gNorm p (ix2 i j) = Ideal.div (p (ix2 i j)) (∑ j, p (ix2 i j)) := by
  unfold gNorm
  pointwise

/-- One head's output. -/
theorem gHead_at (o : ℕ) (ho : o + 64 ≤ 256) (q k v : FVec Ideal S256x256 .f32) (i : Fin 256) (e : Fin 64) :
    gHead o ho q k v (ix2 i e) = soft
      (fun j => (∑ e : Fin 64, q (ix2 i ⟨o + e.val, by omega⟩) * k (ix2 j ⟨o + e.val, by omega⟩)) * cEighth)
      (fun j => v (ix2 j ⟨o + e.val, by omega⟩)) := by
  unfold gHead soft
  rw [gMul_at]
  refine Finset.sum_congr rfl fun j _ => ?_
  rw [gNorm_at]
  simp only [gExp_at, gScore_at]
  pointwise

/-- The column of the device's heads that head column `e` of column `c` is. -/
def hcol (c : Fin 256) (e : Fin 64) : Fin 256 := ⟨64 * (c.val / 64) + e.val, by omega⟩

/-- The scores of the head that starts at `o`, whose columns may be counted from any of its columns. -/
theorem head_cols (q k : FVec Ideal S256x256 .f32) (i c : Fin 256) (o : ℕ) (ho : o + 64 ≤ 256) (hc : o = 64 * (c.val / 64)) :
    (fun j => (∑ e : Fin 64, q (ix2 i ⟨o + e.val, by omega⟩) * k (ix2 j ⟨o + e.val, by omega⟩)) * cEighth)
    = fun j => (∑ e, q (ix2 i (hcol c e)) * k (ix2 j (hcol c e))) * cEighth := by
  subst hc
  rfl

theorem gHeads_at (q k v : FVec Ideal S256x256 .f32) (i c : Fin 256) :
    gHeads q k v (ix2 i c) = soft (fun j => (∑ e, q (ix2 i (hcol c e)) * k (ix2 j (hcol c e))) * cEighth) (fun j => v (ix2 j c)) := by
  have h256 := c.isLt
  unfold gHeads
  pointwise [gHead_at]
  have hv : ∀ (n : ℕ) (h : n < 256), n = c.val → (fun j => v (ix2 j ⟨n, h⟩)) = fun j => v (ix2 j c) :=
    fun n h e => funext fun j => congrArg (fun c => v (ix2 j c)) (Fin.ext e)
  by_cases h0 : c.val < 64
  · rw [dif_pos h0, ← head_cols q k i c 0 (by omega) (by omega)]
    simp only [Nat.zero_add]
  rw [dif_neg h0]
  by_cases h1 : c.val - 64 < 64
  · rw [dif_pos h1, ← head_cols q k i c 64 (by omega) (by omega), hv _ _ (by omega)]
  rw [dif_neg h1]
  by_cases h2 : c.val - 64 - 64 < 64
  · rw [dif_pos h2, ← head_cols q k i c 128 (by omega) (by omega), hv _ _ (by omega)]
  · rw [dif_neg h2, ← head_cols q k i c 192 (by omega) (by omega), hv _ _ (by omega)]

/-- The device's attention partial. -/
theorem gAttn_at (b : Fin 2) (sc sh : FVec Ideal S2x512 .f32) (x : Vec Ideal S1x256x512 .f32) (wq wk wv : Vec Ideal S512x256 .f32)
    (wo : Vec Ideal S256x512 .f32) (u : Fin 1) (i : Fin 256) (k : Fin 512) :
    gAttn b sc sh x wq wk wv wo (ix3 u i k) = ∑ c : Fin 256, attn
      (fun i => modLn (fun k => x (ix3 0 i k)) (fun k => sc (ix2 b k)) (fun k => sh (ix2 b k)))
      (fun e k => wq (ix2 k (hcol c e))) (fun e k => wk (ix2 k (hcol c e))) (fun k => wv (ix2 k c)) i * wo (ix2 c k) := by
  unfold gAttn attn score proj
  pointwise [gMul_at, gHeads_at, gMod_at]

theorem gRes_at (n : ℕ) (b : Fin 2) (g : FVec Ideal S2x512 .f32) (x a : Vec Ideal (M3 n) .f32) (r : Fin n) (k : Fin 512) :
    gRes n b g x a (ix2 r k) = x (ix3 0 r k) + g (ix2 b k) * a (ix3 0 r k) := by
  unfold gRes
  rw [addf_apply, mulf_apply, in_at, in_at]
  pointwise

theorem gResB_at (n : ℕ) (b : Fin 2) (g : FVec Ideal S2x512 .f32) (x a : Vec Ideal (M3 n) .f32) (u : Fin 1) (r : Fin n) (k : Fin 512) :
    gResB n b g x a (ix3 u r k) = x (ix3 0 r k) + g (ix2 b k) * a (ix3 0 r k) := by
  rw [gResB, out_at, gRes_at]

theorem gSilu_at (n : ℕ) (x : FVec Ideal (M2 n 256) .f32) (r : Fin n) (c : Fin 256) : gSilu n x (ix2 r c) = silu (x (ix2 r c)) := by
  unfold gSilu silu
  pointwise
  rw [zero_sub]

theorem gFfn_at (n : ℕ) (b : Fin 2) (sc sh : FVec Ideal S2x512 .f32) (h : FVec Ideal (M2 n 512) .f32) (w1 : Vec Ideal S512x256 .f32)
    (w2 : Vec Ideal S256x512 .f32) (u : Fin 1) (r : Fin n) (k : Fin 512) :
    gFfn n b sc sh h w1 w2 (ix3 u r k) = ∑ c : Fin 256,
      silu (∑ l, modLn (fun k => h (ix2 r k)) (fun k => sc (ix2 b k)) (fun k => sh (ix2 b k)) l * w1 (ix2 l c)) * w2 (ix2 c k) := by
  unfold gFfn
  rw [out_at]
  pointwise [gMul_at, gMod_at, gSilu_at]

end Cert.Dit

end
-- ==== Proof.Value.lean ====
/-
# The kernel's result

The devices' arguments are the blocks of one set of arguments. The three exchanges with the three peers give every
device the sum over all eight, so each device's result is the block's on the whole arguments.
-/
module

public import proofs.«01_k».proof.Proof.Data
public import proofs.«01_k».proof.Proof.KerAt

@[expose] public section

noncomputable section

namespace Cert.Dit

open Cert.KernelIdeal Cert.KernelIdeal.Gen
open Idealize.ShloMosaic Idealize.ShloMosaic.TcCoe Idealize.SL.Sem

/-! ## The sum over the devices -/

/-- The device reached from `c` by the chosen exchanges of part `j`. -/
def reach (j : Fin 3) (c : Dev nD) (s : Bool × Bool × Bool) : Dev nD :=
  let a := bif s.1 then peer (mk3 2 j) c else c
  let b := bif s.2.1 then peer (mk3 1 j) a else a
  bif s.2.2 then peer (mk3 0 j) b else b

/-- Every device is reached by one choice. -/
theorem reach_inj (j : Fin 3) (c : Dev nD) : Function.Injective (reach j c) := by
  revert j c; decide +kernel

theorem reach_sum (j : Fin 3) (c : Dev nD) (f : Dev nD → EReal) : ∑ s, f (reach j c s) = ∑ d, f d :=
  (Equiv.ofBijective _ ((Fintype.bijective_iff_injective_and_card _).2 ⟨reach_inj j c, by decide⟩)).sum_comp f

/-- After the three exchanges every device holds the sum over the devices. -/
theorem addAt_sum (A : Dev nD → Vec Ideal S2x256x512 .f32) (c : Dev nD) (i : S2x256x512.Idx) :
    addAt 2 (addAt 1 (addAt 0 A)) c i = ∑ d : Dev nD, A d i := by
  rw [← reach_sum (pt i) c (fun d => A d i)]
  simp only [Fintype.sum_prod_type, Fintype.sum_bool]
  show ((A c i + A _ i) + (A _ i + A _ i)) + ((A _ i + A _ i) + (A _ i + A _ i)) = _
  simp only [reach, cond_true, cond_false]
  ac_rfl

/-! ## Rows of a buffer -/

/-- A buffer read back by the part and the row in it. -/
theorem rows_row (f : Vec Ideal S2x256x512 .f32) (b : Fin 2) (i : Fin 256) (k k' : Fin 512) :
    rows b (pt (ix3 b i k)) f (ix3 0 ⟨i.val - 88 * (pt (ix3 b i k)).val, pt_lt (ix3 b i k)⟩ k') = f (ix3 b i k') := by
  have h : 88 * (i.val / 88) ≤ i.val := Nat.mul_div_le _ _
  refine congrArg f (funext fun a => ?_)
  match a with
  | 0 => exact Fin.ext (by show b.val + 1 * 0 = b.val; omega)
  | 1 => exact Fin.ext (by show 88 * (i.val / 88) + 1 * (i.val - 88 * (i.val / 88)) = i.val; omega)
  | 2 => exact Fin.ext (by show 0 + 1 * k'.val = k'.val; omega)

theorem batch_row (f : Vec Ideal S2x256x512 .f32) (b : Fin 2) (i : Fin 256) (k : Fin 512) :
    batch b f (ix3 0 i k) = f (ix3 b i k) := by
  refine congrArg f (funext fun a => ?_)
  match a with
  | 0 => exact Fin.ext (by show b.val + 1 * 0 = b.val; omega)
  | 1 => exact Fin.ext (by show 0 + 1 * i.val = i.val; omega)
  | 2 => exact Fin.ext (by show 0 + 1 * k.val = k.val; omega)

theorem byRows_row (v : (b : Fin 2) → (j : Fin 3) → FVec Ideal (M3 (rl j)) .f32) (b : Fin 2) (i : Fin 256) (k : Fin 512) :
    byRows v (ix3 b i k) = v b (pt (ix3 b i k)) (ix3 0 ⟨i.val - 88 * (pt (ix3 b i k)).val, pt_lt (ix3 b i k)⟩ k) := by
  rw [ix3_eq_valueIdx (0 : Fin 1)]; rfl

theorem byBatch_row (v : Fin 2 → FVec Ideal S1x256x512 .f32) (b : Fin 2) (i : Fin 256) (k : Fin 512) :
    byBatch v (ix3 b i k) = v b (ix3 0 i k) := by
  rw [ix3_eq_valueIdx (0 : Fin 1)]; rfl

/-! ## The values -/

/-- The devices' arguments are blocks of `P`: the weights of the two parallel parts are cut into eight along their
    inner dimension, the other arguments are whole everywhere. -/
structure Laid (m : (ℓ : Loc nD τ sig) → Buf (Elt Ideal) ℓ) (P : Args) : Prop where
  x : ∀ c b i k, xst m c (ix3 b i k) = P.x b i k
  q : ∀ (c : Dev nD) k e, qst m c (ix2 k e) = P.q k (col c e)
  k : ∀ (c : Dev nD) k e, kst m c (ix2 k e) = P.k k (col c e)
  v : ∀ (c : Dev nD) k e, vst m c (ix2 k e) = P.v k (col c e)
  o : ∀ (c : Dev nD) e k, ost m c (ix2 e k) = P.o (col c e) k
  t : ∀ c b l, tst m c (ix2 b l) = P.t b l
  w : ∀ c l n, wst m c (ix2 l n) = P.w l n
  f : ∀ (c : Dev nD) k e, fst m c (ix2 k e) = P.f k (col c e)
  g : ∀ (c : Dev nD) e k, gst m c (ix2 e k) = P.g (col c e) k

theorem mod_at (t : Vec Ideal S2x128 .f32) (w : Vec Ideal S128x3072 .f32) (b : Fin 2) (n : Fin 3072) :
    k0_pay2 t w (ix2 b n) = ∑ l, t (ix2 b l) * w (ix2 l n) := by
  unfold k0_pay2
  pointwise [dot_S2x128_S128x3072_S2x3072_1_0_0_1_n_n]

/-- A column of a device is in the head of that column of the whole. -/
theorem headCol_col (d : Fin 8) (c : Fin 256) (e : Fin 64) : headCol (col d c) e = col d (hcol c e) := Fin.ext (by
  show 64 * ((256 * d.val + c.val) / 64) + e.val = 256 * d.val + (64 * (c.val / 64) + e.val)
  omega)

section
variable {m : (ℓ : Loc nD τ sig) → Buf (Elt Ideal) ℓ} {P : Args} (h : Laid m P)
include h

theorem Laid.six (c : Dev nD) (b : Fin 2) (a : Fin 6) (k : Fin 512) (n : Fin 3072) (hn : n.val = 512 * a.val + k.val) :
    k0_pay2 (tst m c) (wst m c) (ix2 b n) = P.md b a k := by
  obtain rfl : n = Cert.Dit.six a k := Fin.ext hn
  rw [mod_at, Args.md]
  exact Finset.sum_congr rfl fun l _ => by rw [h.t, h.w]

theorem Laid.scA (c : Dev nD) (b : Fin 2) (k : Fin 512) : scA m c (ix2 b k) = P.md b 0 k := by
  unfold Cert.Dit.scA k0_pay3; pointwise; exact h.six c b 0 k _ (by simp)
theorem Laid.shA (c : Dev nD) (b : Fin 2) (k : Fin 512) : shA m c (ix2 b k) = P.md b 1 k := by
  unfold Cert.Dit.shA k0_pay4; pointwise; exact h.six c b 1 k _ (by simp)
theorem Laid.gtA (c : Dev nD) (b : Fin 2) (k : Fin 512) : gtA m c (ix2 b k) = P.md b 2 k := by
  unfold Cert.Dit.gtA k0_pay5; pointwise; exact h.six c b 2 k _ (by simp)
theorem Laid.scM (c : Dev nD) (b : Fin 2) (k : Fin 512) : scM m c (ix2 b k) = P.md b 3 k := by
  unfold Cert.Dit.scM k0_pay6; pointwise; exact h.six c b 3 k _ (by simp)
theorem Laid.shM (c : Dev nD) (b : Fin 2) (k : Fin 512) : shM m c (ix2 b k) = P.md b 4 k := by
  unfold Cert.Dit.shM k0_pay7; pointwise; exact h.six c b 4 k _ (by simp)
theorem Laid.gtM (c : Dev nD) (b : Fin 2) (k : Fin 512) : gtM m c (ix2 b k) = P.md b 5 k := by
  unfold Cert.Dit.gtM k0_pay8; pointwise; exact h.six c b 5 k _ (by simp)

/-- A device's attention partial: the sum over its own columns of the heads' outputs. -/
theorem Laid.acc0 (c : Dev nD) (b : Fin 2) (i : Fin 256) (k : Fin 512) :
    acc0 m c (ix3 b i k) = ∑ e : Fin 256, P.att b (col c e) i * P.o (col c e) k := by
  unfold Cert.Dit.acc0
  rw [byBatch_row, gAttn_at]
  refine Finset.sum_congr rfl fun e _ => congrArg₂ (· * ·) ?_ (h.o c e k)
  unfold Args.att Args.h1
  simp only [batch_row, h.x, h.scA, h.shA, h.q, h.k, h.v, headCol_col]

/-- The reduced attention. -/
theorem Laid.acc3 (c : Dev nD) (b : Fin 2) (i : Fin 256) (k : Fin 512) :
    accAt m 3 c (ix3 b i k) = ∑ n, P.att b n i * P.o n k := by
  refine (addAt_sum (Cert.Dit.acc0 m) c _).trans ?_
  rw [← sum_col]
  exact Finset.sum_congr rfl fun d _ => h.acc0 d b i k

theorem Laid.res (c : Dev nD) (b : Fin 2) (i : Fin 256) (k : Fin 512) : resOut m c (ix3 b i k) = P.x1 b i k := by
  unfold resOut resAt
  rw [byRows_row, gResB_at, rows_row, rows_row, h.x, h.acc3, h.gtA, Args.x1]

/-- A device's feed-forward partial: the sum over its own hidden units. -/
theorem Laid.acc4 (c : Dev nD) (b : Fin 2) (i : Fin 256) (k : Fin 512) :
    accAt m 4 c (ix3 b i k) = ∑ e : Fin 256, P.hid b (col c e) i * P.g (col c e) k := by
  rw [accAt_ffn]
  unfold ffnAt
  rw [byRows_row, gFfn_at]
  refine Finset.sum_congr rfl fun e _ => congrArg₂ (· * ·) ?_ (h.g c e k)
  unfold Args.hid Args.h2
  have hr : ∀ k', P.x b i k' + P.md b 2 k' * (∑ n, P.att b n i * P.o n k') = P.x1 b i k' := fun _ => rfl
  simp only [gRes_at, rows_row, h.x, h.acc3, h.gtA, h.scM, h.shM, h.f, hr]

theorem Laid.acc7 (c : Dev nD) (b : Fin 2) (i : Fin 256) (k : Fin 512) :
    accAt m 7 c (ix3 b i k) = ∑ n, P.hid b n i * P.g n k := by
  refine (addAt_sum (accAt m 4) c _).trans ?_
  rw [← sum_col]
  exact Finset.sum_congr rfl fun d _ => h.acc4 d b i k

/-- Every device's result is the block on the whole arguments. -/
theorem Laid.fin (c : Dev nD) (b : Fin 2) (i : Fin 256) (k : Fin 512) : finOut m c (ix3 b i k) = P.out b i k := by
  unfold finOut
  rw [byRows_row, gResB_at, rows_row, rows_row, h.res, h.acc7, h.gtM, Args.out]

end

end Cert.Dit

end
-- ==== Proof.RefAt.lean ====
/-
# The reference at an index

What the reference computes, read at each index of its result: the block of Math.lean on the reference's arguments.
-/
module

public import proofs.«01_k».proof.Proof.Gen.ReferenceIdeal.Run
public import proofs.«01_k».proof.Proof.Math
public import Idealize.ShloMosaic.Lib.Pointwise
public import Idealize.ShloMosaic.Lib.KernelVsHost

@[expose] public section

noncomputable section

namespace Cert.Dit.Ref

open Cert.ReferenceIdeal Cert.ReferenceIdeal.Gen Cert.ReferenceIdeal.Value
open Idealize.ShloMosaic

/-- The host's mean of each row, as a column. -/
def hMean (x : FVec Ideal S2x256x512 .f32) : FVec Ideal S2x256x1 .f32 :=
  Host.divf (broadcastInDim S2x256x1 ![0, 1] bcast_S2x256_S2x256x1_0_1 (Host.reduceAdd x (constant S_ .f32 0x00000000#32) reducesTo_S2x256x512_S2x256_d2 h_S_)) (broadcastInDim S2x256x1 ![] bcast_S_S2x256x1 (constant S_ .f32 0x44000000#32))

/-- The host's rows less their means. -/
def hCen (x : FVec Ideal S2x256x512 .f32) : FVec Ideal S2x256x512 .f32 :=
  subf x (broadcastInDim S2x256x512 ![0, 1, 2] bcast_S2x256x1_S2x256x512_0_1_2 (hMean x))

/-- The number the host divides the squared distances by. -/
def hCount : FVec Ideal S_ .f32 := subf (constant S_ .f32 0x44000000#32) (sitofp .f32 (constantI S_ 32 0#32))

/-- The host's variance of each row, where the count is positive. -/
def hVar (x : FVec Ideal S2x256x512 .f32) : FVec Ideal S2x256x1 .f32 :=
  select (broadcastInDim S2x256x1 ![] bcast_S_S2x256x1 (cmpf .ogt hCount (constant S_ .f32 0x00000000#32))) (Host.divf (broadcastInDim S2x256x1 ![0, 1] bcast_S2x256_S2x256x1_0_1 (Host.reduceAdd (mulf (hCen x) (hCen x)) (constant S_ .f32 0x00000000#32) reducesTo_S2x256x512_S2x256_d2 h_S_)) (broadcastInDim S2x256x1 ![] bcast_S_S2x256x1 hCount)) (broadcastInDim S2x256x1 ![] bcast_S_S2x256x1 (id (constant S_ .f32 0x7FC00000#32)))

/-- One modulation vector of each batch entry, over the rows. -/
def hRow (g : FVec Ideal S2x512 .f32) : FVec Ideal S2x1x512 .f32 :=
  broadcastInDim S2x1x512 ![0, 2] bcast_S2x512_S2x1x512_0_2 g

/-- The host's modulated layer norm. -/
def hLn (x : FVec Ideal S2x256x512 .f32) (sc sh : FVec Ideal S2x512 .f32) : FVec Ideal S2x256x512 .f32 :=
  addf (mulf (Host.divf (hCen x) (broadcastInDim S2x256x512 ![0, 1, 2] bcast_S2x256x1_S2x256x512_0_1_2 (Host.sqrt (addf (hVar x) (broadcastInDim S2x256x1 ![] bcast_S_S2x256x1 (constant S_ .f32 0x3727C5AC#32)))))) (broadcastInDim S2x256x512 ![0, 1, 2] bcast_S2x1x512_S2x256x512_0_1_2 (addf (broadcastInDim S2x1x512 ![] bcast_S_S2x1x512 (constant S_ .f32 0x3F800000#32)) (hRow sc)))) (broadcastInDim S2x256x512 ![0, 1, 2] bcast_S2x1x512_S2x256x512_0_1_2 (hRow sh))

theorem hMean_at (x : FVec Ideal S2x256x512 .f32) (b : Fin 2) (i : Fin 256) (u : Fin 1) :
    hMean x (ix3 b i u) = mean fun k => x (ix3 b i k) := by
  unfold hMean mean
  pointwise

theorem hCen_at (x : FVec Ideal S2x256x512 .f32) (b : Fin 2) (i : Fin 256) (k : Fin 512) :
    hCen x (ix3 b i k) = cen (fun k => x (ix3 b i k)) k := by
  unfold hCen cen
  pointwise [hMean_at]

theorem hCount_at (z : S_.Idx) : hCount z = c512 := by
  unfold hCount
  pointwise
  rw [show FloatOps.sitofp (F := Ideal) FTy.f32 0#32 = (0 : EReal) from sitofp_zero, sub_zero]

theorem hVar_at (x : FVec Ideal S2x256x512 .f32) (b : Fin 2) (i : Fin 256) (u : Fin 1) :
    hVar x (ix3 b i u) = var fun k => x (ix3 b i k) := by
  unfold hVar var
  pointwise [hCen_at, hCount_at]
  rw [if_pos (by rw [c512_eq]; norm_num)]

theorem hLn_at (x : FVec Ideal S2x256x512 .f32) (sc sh : FVec Ideal S2x512 .f32) (b : Fin 2) (i : Fin 256) (k : Fin 512) :
    hLn x sc sh (ix3 b i k) = modLn (fun k => x (ix3 b i k)) (fun k => sc (ix2 b k)) (fun k => sh (ix2 b k)) k := by
  unfold hLn modLn hRow
  rw [ln_eq_div]
  pointwise [hCen_at, hVar_at]

/-! ## The arguments -/

section
variable (V : Valuation τ sig (Elt Ideal))

/-- The activations. -/
abbrev aX : FVec Ideal S2x256x512 .f32 := V (Proc.devRef .tc main_arg0)
/-- The query weights. -/
abbrev aQ : FVec Ideal S512x2048 .f32 := V (Proc.devRef .tc main_arg1)
/-- The key weights. -/
abbrev aK : FVec Ideal S512x2048 .f32 := V (Proc.devRef .tc main_arg2)
/-- The value weights. -/
abbrev aV : FVec Ideal S512x2048 .f32 := V (Proc.devRef .tc main_arg3)
/-- The output weights. -/
abbrev aO : FVec Ideal S2048x512 .f32 := V (Proc.devRef .tc main_arg4)
/-- The conditioning vectors. -/
abbrev aT : FVec Ideal S2x128 .f32 := V (Proc.devRef .tc main_arg5)
/-- The modulation weights. -/
abbrev aW : FVec Ideal S128x3072 .f32 := V (Proc.devRef .tc main_arg6)
/-- The first feed-forward weights. -/
abbrev aF : FVec Ideal S512x2048 .f32 := V (Proc.devRef .tc main_arg7)
/-- The second feed-forward weights. -/
abbrev aG : FVec Ideal S2048x512 .f32 := V (Proc.devRef .tc main_arg8)

/-- The reference's arguments by their coordinates. -/
def args : Args where
  x b i k := aX V (ix3 b i k)
  q k c := aQ V (ix2 k c)
  k k c := aK V (ix2 k c)
  v k c := aV V (ix2 k c)
  o c k := aO V (ix2 c k)
  t b l := aT V (ix2 b l)
  w l c := aW V (ix2 l c)
  f k c := aF V (ix2 k c)
  g c k := aG V (ix2 c k)

/-- The six modulation vectors side by side. -/
def rMod : FVec Ideal S2x3072 .f32 := Host.dotGeneral (φ₁ := .f32) (φ₂ := .f32) dot_S2x128_S128x3072_S2x3072_1_0_0_1_n_n none (aT V) (aW V)

theorem v0_eq : res_main_v0 V = rMod V := rfl

theorem rMod_at (b : Fin 2) (c : Fin 3072) : rMod V (ix2 b c) = ∑ l, aT V (ix2 b l) * aW V (ix2 l c) := by
  unfold rMod
  pointwise [dot_S2x128_S128x3072_S2x3072_1_0_0_1_n_n]

theorem rMod_six (b : Fin 2) (a : Fin 6) (k : Fin 512) (c : Fin 3072) (hc : c.val = 512 * a.val + k.val) :
    rMod V (ix2 b c) = (args V).md b a k := by
  obtain rfl : c = six a k := Fin.ext hc
  exact rMod_at V b _

/-- The rows the attention reads. -/
def rH1 : FVec Ideal S2x256x512 .f32 := hLn (aX V)
  (extractStridedSlice S2x512 ![0, 0] (rMod V) slices_S2x3072_S2x512_0_0)
  (extractStridedSlice S2x512 ![0, 512] (rMod V) slices_S2x3072_S2x512_0_512)

theorem v26_eq : res_main_v26 V = rH1 V := rfl

theorem rH1_at (b : Fin 2) (i : Fin 256) (k : Fin 512) : rH1 V (ix3 b i k) = (args V).h1 b i k := by
  unfold rH1
  rw [hLn_at, Args.h1]
  congr 1
  · funext k
    pointwise
    exact rMod_six V b 0 k _ (by simp)
  · funext k
    pointwise
    exact rMod_six V b 1 k _ (by simp)

/-- The queries, keys or values: the rows times all 2048 columns, by heads. -/
def hProj (h : FVec Ideal S2x256x512 .f32) (w : FVec Ideal S512x2048 .f32) : FVec Ideal S2x256x32x64 .f32 :=
  shapeCast _ (Host.dotGeneral (φ₁ := .f32) (φ₂ := .f32) dot_S2x256x512_S512x2048_S2x256x2048_2_0_01_1_n_n none h w) shapeCasts_S2x256x2048_S2x256x32x64

theorem hProj_at (h : FVec Ideal S2x256x512 .f32) (w : FVec Ideal S512x2048 .f32) (b : Fin 2) (i : Fin 256) (n : Fin 32) (e : Fin 64)
    (c : Fin 2048) (hc : c.val = 64 * n.val + e.val) :
    hProj h w (ix4 b i n e) = proj (fun i k => h (ix3 b i k)) (fun k => w (ix2 k c)) i := by
  unfold hProj proj
  pointwise [dot_S2x256x512_S512x2048_S2x256x2048_2_0_01_1_n_n]
  exact Finset.sum_congr rfl fun k _ => congrArg (fun c => h (ix3 b i k) * w (ix2 k c)) (Fin.ext (by simp [hc]; omega))

/-- The scaled scores. -/
def hScore (h : FVec Ideal S2x256x512 .f32) (wq wk : FVec Ideal S512x2048 .f32) : FVec Ideal S2x32x256x256 .f32 :=
  mulf (Host.dotGeneral (φ₁ := .f32) (φ₂ := .f32) dot_S2x256x32x64_S2x256x32x64_S2x32x256x256_3_3_1_1_02_02 none (hProj h wq) (hProj h wk)) (broadcastInDim S2x32x256x256 ![] bcast_S_S2x32x256x256 (constant S_ .f32 0x3E000000#32))

theorem v38_eq : res_main_v38 V = hScore (rH1 V) (aQ V) (aK V) := rfl

theorem hScore_at (h : FVec Ideal S2x256x512 .f32) (wq wk : FVec Ideal S512x2048 .f32) (b : Fin 2) (n : Fin 32) (i j : Fin 256)
    (c : Fin 2048) (hc : n.val = c.val / 64) :
    hScore h wq wk (ix4 b n i j) = score (fun i k => h (ix3 b i k)) (fun e k => wq (ix2 k (headCol c e))) (fun e k => wk (ix2 k (headCol c e))) i j := by
  have hp : ∀ (w : FVec Ideal S512x2048 .f32) i e, hProj h w (ix4 b i n e) = proj (fun i k => h (ix3 b i k)) (fun k => w (ix2 k (headCol c e))) i :=
    fun w i e => hProj_at h w b i n e _ (by rw [hc]; rfl)
  unfold hScore score
  pointwise [dot_S2x256x32x64_S2x256x32x64_S2x32x256x256_3_3_1_1_02_02, hp]

/-- The host's maximum over the last of four axes. -/
theorem max_last {n0 n1 n2 n3 : Nat} (s : FVec Ideal ⟨4, ![n0, n1, n2, n3]⟩ .f32) (z : FVec Ideal S_ .f32)
    (h : (⟨4, ![n0, n1, n2, n3]⟩ : Shape).ReducesTo [3] ⟨3, ![n0, n1, n2]⟩) (hu : 0 < S_.numel) (a : Fin n0) (b : Fin n1) (c : Fin n2) :
    Host.reduce FloatOps.maximumf s z h hu (ix3 a b c) = Finset.univ.fold max (z (Shape.Idx.first hu)) fun j => s (ix4 a b c j) := by
  pointwise

/-- A column joined with the scores' least value. -/
def hJoin (r : FVec Ideal S2x32x256 .f32) : FVec Ideal S2x32x256x1 .f32 :=
  maximumf (broadcastInDim S2x32x256x1 ![] bcast_S_S2x32x256x1 (constant S_ .f32 0xFF800000#32)) (broadcastInDim S2x32x256x1 ![0, 1, 2] bcast_S2x32x256_S2x32x256x1_0_1_2 r)

theorem hJoin_at (r : FVec Ideal S2x32x256 .f32) (b : Fin 2) (n : Fin 32) (i : Fin 256) (u : Fin 1) :
    hJoin r (ix4 b n i u) = r (ix3 b n i) := by
  unfold hJoin
  pointwise [neg_inf_eq]
  exact max_eq_right bot_le

/-- The greatest score of each row. -/
def hTop (s : FVec Ideal S2x32x256x256 .f32) : FVec Ideal S2x32x256x1 .f32 :=
  hJoin (Host.reduce FloatOps.maximumf s (constant S_ .f32 0xFF800000#32) reducesTo_S2x32x256x256_S2x32x256_d3 h_S_)

theorem v41_eq : res_main_v41 V = hTop (res_main_v38 V) := rfl

theorem hTop_at (s : FVec Ideal S2x32x256x256 .f32) (b : Fin 2) (n : Fin 32) (i : Fin 256) (u : Fin 1) :
    hTop s (ix4 b n i u) = top fun j => s (ix4 b n i j) := by
  rw [hTop, hJoin_at, top]
  refine (max_last s (constant S_ .f32 0xFF800000#32) reducesTo_S2x32x256x256_S2x32x256_d3 h_S_ b n i).trans ?_
  rw [constant_apply, Ideal.ofBits_def, neg_inf_eq]

/-- The exponentials of the scores less their row's greatest. -/
def hWt (s : FVec Ideal S2x32x256x256 .f32) : FVec Ideal S2x32x256x256 .f32 :=
  Host.exp (subf s (broadcastInDim S2x32x256x256 ![0, 1, 2, 3] bcast_S2x32x256x1_S2x32x256x256_0_1_2_3 (hTop s)))

theorem v46_eq : res_main_v46 V = hWt (res_main_v38 V) := rfl

theorem hWt_at (s : FVec Ideal S2x32x256x256 .f32) (b : Fin 2) (n : Fin 32) (i j : Fin 256) :
    hWt s (ix4 b n i j) = wt (fun j => s (ix4 b n i j)) j := by
  unfold hWt wt
  pointwise [hTop_at]

/-- The heads' outputs side by side, from the weights `p`, the values `v` and the (here discarded) old factor `al`. -/
def hAtt (p : FVec Ideal S2x32x256x256 .f32) (v : FVec Ideal S2x256x32x64 .f32) (al : FVec Ideal S2x32x256x1 .f32) : FVec Ideal S2x256x2048 .f32 :=
  shapeCast _ (Host.divf (addf (mulf (broadcastInDim S2x256x32x64 ![] bcast_S_S2x256x32x64 (constant S_ .f32 0x00000000#32)) (broadcastInDim S2x256x32x64 ![0, 1, 2, 3] bcast_S2x256x32x1_S2x256x32x64_0_1_2_3 (transpose S2x256x32x1 [0, 2, 1, 3] al transposes_S2x32x256x1_S2x256x32x1_0_2_1_3))) (transpose S2x256x32x64 [0, 3, 1, 2] (Host.dotGeneral (φ₁ := .f32) (φ₂ := .f32) dot_S2x256x32x64_S2x32x256x256_S2x32x64x256_1_3_3_2_02_01 none v p) transposes_S2x32x64x256_S2x256x32x64_0_3_1_2)) (broadcastInDim S2x256x32x64 ![0, 1, 2, 3] bcast_S2x256x32x1_S2x256x32x64_0_1_2_3 (transpose S2x256x32x1 [0, 2, 1, 3] (addf (mulf (broadcastInDim S2x32x256x1 ![] bcast_S_S2x32x256x1 (constant S_ .f32 0x00000000#32)) al) (broadcastInDim S2x32x256x1 ![0, 1, 2] bcast_S2x32x256_S2x32x256x1_0_1_2 (Host.reduceAdd p (constant S_ .f32 0x00000000#32) reducesTo_S2x32x256x256_S2x32x256_d3 h_S_))) transposes_S2x32x256x1_S2x256x32x1_0_2_1_3))) shapeCasts_S2x256x32x64_S2x256x2048

theorem hAtt_at (p : FVec Ideal S2x32x256x256 .f32) (v : FVec Ideal S2x256x32x64 .f32) (al : FVec Ideal S2x32x256x1 .f32)
    (b : Fin 2) (i : Fin 256) (c : Fin 2048) (n : Fin 32) (e : Fin 64) (hc : c.val = 64 * n.val + e.val) :
    hAtt p v al (ix3 b i c) = Ideal.div (∑ j, v (ix4 b j n e) * p (ix4 b n i j)) (∑ j, p (ix4 b n i j)) := by
  unfold hAtt
  pointwise [dot_S2x256x32x64_S2x32x256x256_S2x32x64x256_1_3_3_2_02_01]
  have hn : (⟨c.val / 64, by omega⟩ : Fin 32) = n := Fin.ext (by simp only; omega)
  have he : (⟨c.val % 64, by omega⟩ : Fin 64) = e := Fin.ext (by simp only; omega)
  simp only [hn, he, zero_mul, zero_add]

/-- The rows after the attention. -/
def hX1 (x : FVec Ideal S2x256x512 .f32) (g : FVec Ideal S2x512 .f32) (a : FVec Ideal S2x256x2048 .f32) (w : FVec Ideal S2048x512 .f32) :
    FVec Ideal S2x256x512 .f32 :=
  addf x (mulf (broadcastInDim S2x256x512 ![0, 1, 2] bcast_S2x1x512_S2x256x512_0_1_2 (hRow g))
    (Host.dotGeneral (φ₁ := .f32) (φ₂ := .f32) dot_S2x256x2048_S2048x512_S2x256x512_2_0_01_1_n_n none a w))

theorem hX1_at (x : FVec Ideal S2x256x512 .f32) (g : FVec Ideal S2x512 .f32) (a : FVec Ideal S2x256x2048 .f32) (w : FVec Ideal S2048x512 .f32)
    (b : Fin 2) (i : Fin 256) (k : Fin 512) :
    hX1 x g a w (ix3 b i k) = x (ix3 b i k) + g (ix2 b k) * ∑ c, a (ix3 b i c) * w (ix2 c k) := by
  unfold hX1 hRow
  pointwise [dot_S2x256x2048_S2048x512_S2x256x512_2_0_01_1_n_n]

theorem v65_eq : res_main_v65 V = hX1 (aX V) (extractStridedSlice S2x512 ![0, 1024] (rMod V) slices_S2x3072_S2x512_0_1024)
    (hAtt (hWt (hScore (rH1 V) (aQ V) (aK V))) (hProj (rH1 V) (aV V)) (res_main_v43 V)) (aO V) := rfl

theorem att_at (h : (args V).Finite) (al : FVec Ideal S2x32x256x1 .f32) (b : Fin 2) (i : Fin 256) (c : Fin 2048) :
    hAtt (hWt (hScore (rH1 V) (aQ V) (aK V))) (hProj (rH1 V) (aV V)) al (ix3 b i c) = (args V).att b c i := by
  have hc : c.val / 64 < 32 := by omega
  have he : c.val % 64 < 64 := by omega
  have hH : (fun i k => rH1 V (ix3 b i k)) = (args V).h1 b := by funext i k; exact rH1_at V b i k
  have hs : ∀ i, (fun j => hScore (rH1 V) (aQ V) (aK V) (ix4 b ⟨c.val / 64, hc⟩ i j)) = score ((args V).h1 b)
      (fun e k => (args V).q k (headCol c e)) (fun e k => (args V).k k (headCol c e)) i := by
    intro i; funext j
    rw [hScore_at (rH1 V) (aQ V) (aK V) b ⟨c.val / 64, hc⟩ i j c rfl, hH]; rfl
  have hv : ∀ j, hProj (rH1 V) (aV V) (ix4 b j ⟨c.val / 64, hc⟩ ⟨c.val % 64, he⟩) = proj ((args V).h1 b) (fun k => (args V).v k c) j := by
    intro j
    rw [hProj_at (rH1 V) (aV V) b j ⟨c.val / 64, hc⟩ ⟨c.val % 64, he⟩ c (by simp only; omega), hH]; rfl
  rw [hAtt_at _ _ _ b i c ⟨c.val / 64, hc⟩ ⟨c.val % 64, he⟩ (by simp only; omega), Args.att, attn, soft_eq _ _ fun j => h.score b c i j]
  simp only [hWt_at, hs, hv]

theorem x1_at (h : (args V).Finite) (b : Fin 2) (i : Fin 256) (k : Fin 512) : res_main_v65 V (ix3 b i k) = (args V).x1 b i k := by
  rw [v65_eq, hX1_at, Args.x1]
  refine congrArg₂ (fun p q => (args V).x b i k + p * q) ?_ (Finset.sum_congr rfl fun c _ => congrArg (· * (args V).o c k) (att_at V h _ b i c))
  pointwise
  exact rMod_six V b 2 k _ (by simp)

/-- The hidden units. -/
def hSilu (u : FVec Ideal S2x256x2048 .f32) : FVec Ideal S2x256x2048 .f32 :=
  Host.divf u (addf (broadcastInDim S2x256x2048 ![] bcast_S_S2x256x2048 (constant S_ .f32 0x3F800000#32)) (Host.exp (Host.negf u)))

theorem hSilu_at (u : FVec Ideal S2x256x2048 .f32) (b : Fin 2) (i : Fin 256) (c : Fin 2048) :
    hSilu u (ix3 b i c) = silu (u (ix3 b i c)) := by
  unfold hSilu silu
  pointwise

/-- The rows the feed-forward part reads. -/
def rH2 : FVec Ideal S2x256x512 .f32 := hLn (res_main_v65 V)
  (extractStridedSlice S2x512 ![0, 1536] (rMod V) slices_S2x3072_S2x512_0_1536)
  (extractStridedSlice S2x512 ![0, 2048] (rMod V) slices_S2x3072_S2x512_0_2048)

theorem rH2_at (h : (args V).Finite) (b : Fin 2) (i : Fin 256) (k : Fin 512) : rH2 V (ix3 b i k) = (args V).h2 b i k := by
  unfold rH2
  rw [hLn_at, Args.h2]
  congr 1
  · funext k
    exact x1_at V h b i k
  · funext k
    pointwise
    exact rMod_six V b 3 k _ (by simp)
  · funext k
    pointwise
    exact rMod_six V b 4 k _ (by simp)

/-- The rows times the first feed-forward weights. -/
def hUp (h : FVec Ideal S2x256x512 .f32) (w : FVec Ideal S512x2048 .f32) : FVec Ideal S2x256x2048 .f32 :=
  Host.dotGeneral (φ₁ := .f32) (φ₂ := .f32) dot_S2x256x512_S512x2048_S2x256x2048_2_0_01_1_n_n none h w

theorem hUp_at (h : FVec Ideal S2x256x512 .f32) (w : FVec Ideal S512x2048 .f32) (b : Fin 2) (i : Fin 256) (c : Fin 2048) :
    hUp h w (ix3 b i c) = ∑ k, h (ix3 b i k) * w (ix2 k c) := by
  unfold hUp
  pointwise [dot_S2x256x512_S512x2048_S2x256x2048_2_0_01_1_n_n]

/-- The reference's result. -/
def result : FVec Ideal S2x256x512 .f32 :=
  hX1 (res_main_v65 V) (extractStridedSlice S2x512 ![0, 2560] (rMod V) slices_S2x3072_S2x512_0_2560) (hSilu (hUp (rH2 V) (aF V))) (aG V)

theorem result_at (h : (args V).Finite) (b : Fin 2) (i : Fin 256) (k : Fin 512) : result V (ix3 b i k) = (args V).out b i k := by
  unfold result
  rw [hX1_at, x1_at V h, Args.out]
  refine congrArg₂ (fun p q => (args V).x1 b i k + p * q) ?_ (Finset.sum_congr rfl fun c _ => congrArg (· * (args V).g c k) ?_)
  · pointwise
    exact rMod_six V b 5 k _ (by simp)
  · rw [hSilu_at, hUp_at, Args.hid]
    exact congrArg silu (Finset.sum_congr rfl fun k _ => congrArg (· * (args V).f k c) (rH2_at V h b i k))

end

end Cert.Dit.Ref

end
-- ==== Proof.Equal.lean ====
/-
# The kernel's result is the reference's

The devices' arguments are the blocks of the reference's, and the precondition makes the scores finite; so the result
of every device and the reference's are the same block of the same arguments.
-/
module

public import proofs.«01_k».proof.Proof.Frames
public import proofs.«01_k».proof.Proof.Value
public import Idealize.ShloMosaic.Lib.ReduceAll
public import Idealize.ShloMosaic.Lib.LayoutAt
public import proofs.«01_k».proof.Proof.RefAt
public import proofs.«01_k».proof.Defs

@[expose] public section

noncomputable section

namespace Cert.Dit

open Cert.KernelIdeal Cert.KernelIdeal.Gen
open Idealize.ShloMosaic Idealize.ShloMosaic.TcCoe Idealize.SL.Sem
variable (m : (ℓ : Loc nD τ sig) → Buf (Elt Ideal) ℓ) (c : Dev nD)

/-- A window that is the whole array reads the array. -/
theorem whole_at {S : Shape} {β : Type} (f : S.Idx → β) (e : S.Idx → S.Idx) (he : ∀ j a, (e j a).val = 0 * S.size a + 1 * (j a).val)
    (j : S.Idx) : f (e j) = f j := by
  refine congrArg f (funext fun a => Fin.ext ?_)
  rw [he]; omega

theorem xst_eq : xst m c = m ((c : Thread nD τ).loc main_arg0) :=
  funext (whole_at _ (win0_0.blk (0 : Fin 1)).view.emb fun _ _ => rfl)
theorem qst_eq : qst m c = m ((c : Thread nD τ).loc main_arg1) :=
  funext (whole_at _ (win0_1.blk (0 : Fin 1)).view.emb fun _ _ => rfl)
theorem kst_eq : kst m c = m ((c : Thread nD τ).loc main_arg2) :=
  funext (whole_at _ (win0_2.blk (0 : Fin 1)).view.emb fun _ _ => rfl)
theorem vst_eq : vst m c = m ((c : Thread nD τ).loc main_arg3) :=
  funext (whole_at _ (win0_3.blk (0 : Fin 1)).view.emb fun _ _ => rfl)
theorem ost_eq : ost m c = m ((c : Thread nD τ).loc main_arg4) :=
  funext (whole_at _ (win0_4.blk (0 : Fin 1)).view.emb fun _ _ => rfl)
theorem tst_eq : tst m c = m ((c : Thread nD τ).loc main_arg5) :=
  funext (whole_at _ (win0_5.blk (0 : Fin 1)).view.emb fun _ _ => rfl)
theorem wst_eq : wst m c = m ((c : Thread nD τ).loc main_arg6) :=
  funext (whole_at _ (win0_6.blk (0 : Fin 1)).view.emb fun _ _ => rfl)
theorem fst_eq : fst m c = m ((c : Thread nD τ).loc main_arg7) :=
  funext (whole_at _ (win0_7.blk (0 : Fin 1)).view.emb fun _ _ => rfl)
theorem gst_eq : gst m c = m ((c : Thread nD τ).loc main_arg8) :=
  funext (whole_at _ (win0_8.blk (0 : Fin 1)).view.emb fun _ _ => rfl)

/-- A value whose absolute value is below infinity is finite. -/
theorem fin_of_lt (x : Ideal .f32) (h : FloatOps.cmpf .olt (FloatOps.hostAbsf x) (FloatOps.ofBits (F := Ideal) .f32 0x7F800000#32) = 1#1) :
    Fin' x := by
  rw [← Ideal.xori_weird_eq_hostAbsf_olt_inf] at h
  have h2 : IntOp.xori (BitVec.ofBool (decide ((x : EReal) = ⊤ ∨ (x : EReal) = ⊥))) 1#1 = 1#1 := h
  by_cases hx : (x : EReal) = ⊤ ∨ (x : EReal) = ⊥
  · simp [hx, IntOp.xori] at h2
  · push Not at hx
    exact Fin'.of_ne hx.1 hx.2

/-! ## The precondition -/

instance facts_pre : Cert.Pre_finite_scores_KernelIdeal.Facts := by
  constructor <;> decide

/-- A conjunction that is one has both its parts one. -/
theorem and_one (a b : BitVec 1) (h : IntOp.andi a b = 1#1) : a = 1#1 ∧ b = 1#1 := by
  revert a b; decide

instance facts_pre_ref : Cert.Pre_finite_scores_ReferenceIdeal.Facts := by
  constructor <;> decide

open Cert.Pre_finite_scores_KernelIdeal in
/-- What the precondition says of one device's arguments. -/
theorem pre_fin (x q k v o t w f g) (h : Cert.Pre_finite_scores_KernelIdeal.fn (F := Ideal) x q k v o t w f g = fun _ => 1#1) :
    (∀ i, Fin' (q i)) ∧ (∀ i, Fin' (k i)) ∧ (∀ i, Fin' (t i)) ∧ ∀ (l : Fin 128) (n : Fin 3072), n.val < 1024 → Fin' (w (ix2 l n)) := by
  have e := congrFun h (fun a => a.elim0)
  dsimp only [fn, fn_part1] at e
  obtain ⟨e, e4⟩ := and_one _ _ e
  obtain ⟨e, e3⟩ := and_one _ _ e
  obtain ⟨e1, e2⟩ := and_one _ _ e
  haveI : Subsingleton Cert.Pre_finite_scores_KernelIdeal.S_.Idx := ⟨fun a b => funext fun i => i.elim0⟩
  refine ⟨fun i => fin_of_lt _ (Host.reduce_andi_all _ _ _ _ _ e1 i), fun i => fin_of_lt _ (Host.reduce_andi_all _ _ _ _ _ e2 i),
    fun i => fin_of_lt _ (Host.reduce_andi_all _ _ _ _ _ e3 i), fun l n hn => ?_⟩
  have hw : extractStridedSlice S128x1024 ![0, 0] w Facts.slices_S128x3072_S128x1024_0_0 (ix2 l ⟨n.val, hn⟩) = w (ix2 l n) := by
    pointwise
  rw [← hw]
  exact fin_of_lt _ (Host.reduce_andi_all _ _ _ _ _ e4 (ix2 l ⟨n.val, hn⟩))

/-! ## The blocks of the whole arguments -/

/-- A weight cut by columns, -/
theorem cols_at (c : Fin 8) (v : (⟨2, ![512, 2048]⟩ : Shape).Idx → EReal) (k : Fin 512) (e : Fin 256) :
    Layout.block ⟨2, ![512, 256]⟩ ⟨2, ![512, 2048]⟩ 1 8 c v (by decide) (ix2 k e) = v (ix2 k (col c e)) := by
  refine congrArg v (funext fun a => Fin.ext ?_)
  match a with
  | 0 => rfl
  | 1 => show c.val * 256 + e.val = 256 * c.val + e.val; omega

/-- and one cut by rows. -/
theorem rows_at (c : Fin 8) (v : (⟨2, ![2048, 512]⟩ : Shape).Idx → EReal) (k : Fin 512) (e : Fin 256) :
    Layout.block ⟨2, ![256, 512]⟩ ⟨2, ![2048, 512]⟩ 0 8 c v (by decide) (ix2 e k) = v (ix2 (col c e) k) := by
  refine congrArg v (funext fun a => Fin.ext ?_)
  match a with
  | 0 => show c.val * 256 + e.val = 256 * c.val + e.val; omega
  | 1 => rfl

section
variable {m}
variable {m' : (ℓ : Loc Cert.ReferenceIdeal.nD Cert.ReferenceIdeal.τ Cert.ReferenceIdeal.sig) → Buf (Elt Ideal) ℓ}

/-- The reference's argument `r`. -/
abbrev ref' (m' : (ℓ : Loc Cert.ReferenceIdeal.nD Cert.ReferenceIdeal.τ Cert.ReferenceIdeal.sig) → Buf (Elt Ideal) ℓ) :=
  Idealize.ShloMosaic.StableHlo.launchContents m' (0 : Dev Cert.ReferenceIdeal.nD)

/-- The devices' arguments are the blocks of the reference's. -/
theorem laid
    (h0 : ∀ c : Dev nD, m ((c : Thread nD τ).loc main_arg0) = Ref.aX (ref' m'))
    (h1 : ∀ c : Dev nD, m ((c : Thread nD τ).loc main_arg1) = Layout.block ⟨2, ![512, 256]⟩ ⟨2, ![512, 2048]⟩ 1 8 c (Ref.aQ (ref' m')))
    (h2 : ∀ c : Dev nD, m ((c : Thread nD τ).loc main_arg2) = Layout.block ⟨2, ![512, 256]⟩ ⟨2, ![512, 2048]⟩ 1 8 c (Ref.aK (ref' m')))
    (h3 : ∀ c : Dev nD, m ((c : Thread nD τ).loc main_arg3) = Layout.block ⟨2, ![512, 256]⟩ ⟨2, ![512, 2048]⟩ 1 8 c (Ref.aV (ref' m')))
    (h4 : ∀ c : Dev nD, m ((c : Thread nD τ).loc main_arg4) = Layout.block ⟨2, ![256, 512]⟩ ⟨2, ![2048, 512]⟩ 0 8 c (Ref.aO (ref' m')))
    (h5 : ∀ c : Dev nD, m ((c : Thread nD τ).loc main_arg5) = Ref.aT (ref' m'))
    (h6 : ∀ c : Dev nD, m ((c : Thread nD τ).loc main_arg6) = Ref.aW (ref' m'))
    (h7 : ∀ c : Dev nD, m ((c : Thread nD τ).loc main_arg7) = Layout.block ⟨2, ![512, 256]⟩ ⟨2, ![512, 2048]⟩ 1 8 c (Ref.aF (ref' m')))
    (h8 : ∀ c : Dev nD, m ((c : Thread nD τ).loc main_arg8) = Layout.block ⟨2, ![256, 512]⟩ ⟨2, ![2048, 512]⟩ 0 8 c (Ref.aG (ref' m'))) :
    Laid m (Ref.args (ref' m')) where
  x c b i k := congrFun ((xst_eq m c).trans (h0 c)) _
  q c k e := (congrFun ((qst_eq m c).trans (h1 c)) _).trans (cols_at c _ k e)
  k c k e := (congrFun ((kst_eq m c).trans (h2 c)) _).trans (cols_at c _ k e)
  v c k e := (congrFun ((vst_eq m c).trans (h3 c)) _).trans (cols_at c _ k e)
  o c e k := (congrFun ((ost_eq m c).trans (h4 c)) _).trans (rows_at c _ k e)
  t c b l := congrFun ((tst_eq m c).trans (h5 c)) _
  w c l n := congrFun ((wst_eq m c).trans (h6 c)) _
  f c k e := (congrFun ((fst_eq m c).trans (h7 c)) _).trans (cols_at c _ k e)
  g c e k := (congrFun ((gst_eq m c).trans (h8 c)) _).trans (rows_at c _ k e)

/-- Every column of the whole is a column of some device. -/
theorem col_surj (n : Fin 2048) : ∃ d c, n = col d c :=
  ⟨⟨n.val / 256, by omega⟩, ⟨n.val % 256, by omega⟩, Fin.ext (Nat.div_add_mod _ _).symm⟩

/-- Under the precondition the whole arguments are finite where it matters. -/
theorem Laid.finite {P : Args} (h : Laid m P) (hp : Cert.Pre_KernelIdeal_finite_scores_KernelIdeal m) : P.Finite where
  q i j := by
    obtain ⟨d, c, rfl⟩ := col_surj j
    rw [← h.q, qst_eq]; exact (pre_fin _ _ _ _ _ _ _ _ _ (hp d)).1 _
  k i j := by
    obtain ⟨d, c, rfl⟩ := col_surj j
    rw [← h.k, kst_eq]; exact (pre_fin _ _ _ _ _ _ _ _ _ (hp d)).2.1 _
  t i j := by rw [← h.t 0, tst_eq]; exact (pre_fin _ _ _ _ _ _ _ _ _ (hp 0)).2.2.1 _
  w i j hj := by rw [← h.w 0, wst_eq]; exact (pre_fin _ _ _ _ _ _ _ _ _ (hp 0)).2.2.2 i j hj

/-- Every device's result is the reference's. -/
theorem Laid.result (h : Laid m (Ref.args (ref' m'))) (hp : Cert.Pre_KernelIdeal_finite_scores_KernelIdeal m) (c : Dev nD) :
    finOut m c = Ref.result (ref' m') := by
  funext i
  obtain ⟨a, b, k, rfl⟩ : ∃ a b k, i = ix3 a b k := ⟨i 0, i 1, i 2, by funext x; match x with | 0 => rfl | 1 => rfl | 2 => rfl⟩
  rw [h.fin, Ref.result_at _ (h.finite hp)]

end

theorem algebraic : Cert.algebraic_KernelIdeal_ReferenceIdeal_pre_finite_scores_KernelIdeal := fun m g m' g' hp ha =>
  have h : Laid m (Ref.args (ref' m')) := laid (fun c => (ha c).1) (fun c => (ha c).2.1) (fun c => (ha c).2.2.1)
    (fun c => (ha c).2.2.2.1) (fun c => (ha c).2.2.2.2.1) (fun c => (ha c).2.2.2.2.2.1) (fun c => (ha c).2.2.2.2.2.2.1)
    (fun c => (ha c).2.2.2.2.2.2.2.1) (fun c => (ha c).2.2.2.2.2.2.2.2)
  ⟨Ref.result (ref' m'),
    (θ_run Cert.KernelIdeal.defs _ _).mono (fun _ hr c => ⟨(hr.1 c).1.trans (h.result hp c), (hr.1 c).2⟩) (run_named (F := Ideal) m g),
    (θ_run Cert.ReferenceIdeal.defs _ _).mono (fun _ hr => hr 0) (Cert.ReferenceIdeal.Value.run (F := Ideal) m' g')⟩

end Cert.Dit

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which it does not need. -/
theorem frame_reference_finite : Cert.quiescent_ReferenceIdeal_pre_finite_scores_ReferenceIdeal
    (hPre_finite_scores_ReferenceIdeal := Cert.Dit.facts_pre_ref) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Dit.facts_pre, Cert.Dit.facts_pre_ref,
  Cert.Dit.frame_kernel, Cert.Dit.frame_kernelIdeal, fun m g _ => Cert.Dit.run_frame (F := Ideal) m g, frame_reference, frame_reference_finite, trivial, Cert.Dit.algebraic⟩

end Cert.Proof

end
